-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x32x32x32 : Shape := ⟨4, ![1024, 32, 32, 32]⟩
abbrev S64x32 : Shape := ⟨2, ![64, 32]⟩
abbrev S65x32 : Shape := ⟨2, ![65, 32]⟩
abbrev S32x32x32x1024 : Shape := ⟨4, ![32, 32, 32, 1024]⟩
abbrev S32x1024x1024 : Shape := ⟨3, ![32, 1024, 1024]⟩
abbrev S_ : Shape := ⟨0, ![]⟩
abbrev S65x96 : Shape := ⟨2, ![65, 96]⟩
abbrev S1024x32 : Shape := ⟨2, ![1024, 32]⟩
abbrev S3x1024x1024 : Shape := ⟨3, ![3, 1024, 1024]⟩
abbrev S1024x96 : Shape := ⟨2, ![1024, 96]⟩
abbrev S2x3 : Shape := ⟨2, ![2, 3]⟩
abbrev S1024x65 : Shape := ⟨2, ![1024, 65]⟩
abbrev S1x1 : Shape := ⟨2, ![1, 1]⟩
abbrev S1x1024x1024 : Shape := ⟨3, ![1, 1024, 1024]⟩
abbrev S1024x1024 : Shape := ⟨2, ![1024, 1024]⟩
abbrev S96x2 : Shape := ⟨2, ![96, 2]⟩
abbrev S1024x2 : Shape := ⟨2, ![1024, 2]⟩
abbrev S1024x1 : Shape := ⟨2, ![1024, 1]⟩
abbrev S32x1024 : Shape := ⟨2, ![32, 1024]⟩
abbrev S32x32x32 : Shape := ⟨3, ![32, 32, 32]⟩

abbrev nBuf : Space → Nat
  | .hbm => 23
  | .vmem => 7
  | .smem => 0
  | _ => 0

abbrev bufTy : (tb : Table) → Fin (tcTables nBuf tb) → BufTy
  | .hbm, ⟨0, _⟩ => ⟨S1024x32x32x32, .f32⟩
  | .hbm, ⟨1, _⟩ => ⟨S1024x32x32x32, .f32⟩
  | .hbm, ⟨2, _⟩ => ⟨S1024x32x32x32, .f32⟩
  | .hbm, ⟨3, _⟩ => ⟨S64x32, .f32⟩
  | .hbm, ⟨4, _⟩ => ⟨S65x32, .f32⟩
  | .hbm, ⟨5, _⟩ => ⟨S65x32, .f32⟩
  | .hbm, ⟨6, _⟩ => ⟨S32x32x32x1024, .f32⟩
  | .hbm, ⟨7, _⟩ => ⟨S32x1024x1024, .f32⟩
  | .hbm, ⟨8, _⟩ => ⟨S32x32x32x1024, .f32⟩
  | .hbm, ⟨9, _⟩ => ⟨S32x1024x1024, .f32⟩
  | .hbm, ⟨10, _⟩ => ⟨S_, .i32⟩
  | .hbm, ⟨11, _⟩ => ⟨S_, .f32⟩
  | .hbm, ⟨12, _⟩ => ⟨S65x32, .f32⟩
  | .hbm, ⟨13, _⟩ => ⟨S65x96, .f32⟩
  | .hbm, ⟨14, _⟩ => ⟨S32x1024x1024, .f32⟩
  | .hbm, ⟨15, _⟩ => ⟨S32x1024x1024, .f32⟩
  | .hbm, ⟨16, _⟩ => ⟨S1024x32, .f32⟩
  | .hbm, ⟨17, _⟩ => ⟨S32x32x32x1024, .f32⟩
  | .hbm, ⟨18, _⟩ => ⟨S1024x32x32x32, .f32⟩
  | .hbm, ⟨19, _⟩ => ⟨S32x32x32x1024, .f32⟩
  | .hbm, ⟨20, _⟩ => ⟨S1024x32x32x32, .f32⟩
  | .hbm, ⟨21, _⟩ => ⟨S32x1024, .f32⟩
  | .hbm, ⟨22, _⟩ => ⟨S32x32x32, .f32⟩
  | .local _ .vmem, ⟨0, _⟩ => ⟨S65x96, .f32⟩
  | .local _ .vmem, ⟨1, _⟩ => ⟨S1024x32, .f32⟩
  | .local _ .vmem, ⟨2, _⟩ => ⟨S3x1024x1024, .f32⟩
  | .local _ .vmem, ⟨3, _⟩ => ⟨S3x1024x1024, .f32⟩
  | .local _ .vmem, ⟨4, _⟩ => ⟨S3x1024x1024, .f32⟩
  | .local _ .vmem, ⟨5, _⟩ => ⟨S3x1024x1024, .f32⟩
  | .local _ .vmem, ⟨6, _⟩ => ⟨S1024x96, .f32⟩
  | _, _ => ⟨S1024x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_49 : BitVec 32 := 0#32
  let c32_i32_50 : BitVec 32 := 32#32
  let v84 : BitVec 32 := Scalar.addi c0_i32_49 c32_i32_50
  let c1_i32_51 : BitVec 32 := 1#32
  ⟨c0_i32_49, v84, c1_i32_51⟩
def k0_cond1 (k0_t1 : Fin k0_t1_loop.trips) : BitVec 1 :=
  let c0_i32_49 : BitVec 32 := 0#32
  let c1_i32_51 : BitVec 32 := 1#32
  let arg13 : BitVec 32 := Scf.iv c0_i32_49 c1_i32_51 k0_t1
  let c3_i32 : BitVec 32 := 3#32
  let v121 : BitVec 32 := Scalar.addi arg13 c3_i32
  let c1_i32_97 : BitVec 32 := 1#32
  let v122 : BitVec 32 := Scalar.subi v121 c1_i32_97
  let c32_i32_98 : BitVec 32 := 32#32
  let v123 : BitVec 1 := Scalar.cmpi .slt v122 c32_i32_98
  let v124 : BitVec 32 := Scalar.extui v123
  let c0_i32_99 : BitVec 32 := 0#32
  let v125 : BitVec 1 := Scalar.cmpi .ne v124 c0_i32_99
  v125

def k0_off1 (k0_t1 : Fin k0_t1_loop.trips) : Fin 2 → Nat :=
  let c0_i32_138 : BitVec 32 := 0#32
  let c0_i32_49 : BitVec 32 := 0#32
  let c1_i32_51 : BitVec 32 := 1#32
  let arg13 : BitVec 32 := Scf.iv c0_i32_49 c1_i32_51 k0_t1
  let c3_i32 : BitVec 32 := 3#32
  let v121 : BitVec 32 := Scalar.addi arg13 c3_i32
  let c1_i32_97 : BitVec 32 := 1#32
  let v122 : BitVec 32 := Scalar.subi v121 c1_i32_97
  let c3_i32_137 : BitVec 32 := 3#32
  let v192 : BitVec 32 := Scalar.remsi v122 c3_i32_137
  ![0, v192.toNat]
def k0_off2 (k0_t1 : Fin k0_t1_loop.trips) : Fin 3 → Nat :=
  let c0_i32_49 : BitVec 32 := 0#32
  let c1_i32_51 : BitVec 32 := 1#32
  let arg13 : BitVec 32 := Scf.iv c0_i32_49 c1_i32_51 k0_t1
  let c3_i32 : BitVec 32 := 3#32
  let v121 : BitVec 32 := Scalar.addi arg13 c3_i32
  let c1_i32_97 : BitVec 32 := 1#32
  let v122 : BitVec 32 := Scalar.subi v121 c1_i32_97
  let c3_i32_137 : BitVec 32 := 3#32
  let v192 : BitVec 32 := Scalar.remsi v122 c3_i32_137
  let c0_i32_139 : BitVec 32 := 0#32
  let c0_i32_140 : BitVec 32 := 0#32
  ![v192.toNat, 0, 0]
def k0_off3 (k0_t1 : Fin k0_t1_loop.trips) : Fin 3 → Nat :=
  let c0_i32_49 : BitVec 32 := 0#32
  let c1_i32_51 : BitVec 32 := 1#32
  let arg13 : BitVec 32 := Scf.iv c0_i32_49 c1_i32_51 k0_t1
  let c3_i32 : BitVec 32 := 3#32
  let v121 : BitVec 32 := Scalar.addi arg13 c3_i32
  let c1_i32_97 : BitVec 32 := 1#32
  let v122 : BitVec 32 := Scalar.subi v121 c1_i32_97
  let c0_i32_141 : BitVec 32 := 0#32
  let c0_i32_142 : BitVec 32 := 0#32
  ![v122.toNat, 0, 0]
def k0_off4 (k0_t1 : Fin k0_t1_loop.trips) : Fin 2 → Nat :=
  let c1_i32_143 : BitVec 32 := 1#32
  let c0_i32_49 : BitVec 32 := 0#32
  let c1_i32_51 : BitVec 32 := 1#32
  let arg13 : BitVec 32 := Scf.iv c0_i32_49 c1_i32_51 k0_t1
  let c3_i32 : BitVec 32 := 3#32
  let v121 : BitVec 32 := Scalar.addi arg13 c3_i32
  let c1_i32_97 : BitVec 32 := 1#32
  let v122 : BitVec 32 := Scalar.subi v121 c1_i32_97
  let c3_i32_137 : BitVec 32 := 3#32
  let v192 : BitVec 32 := Scalar.remsi v122 c3_i32_137
  ![1, v192.toNat]
def k0_off5 (k0_t1 : Fin k0_t1_loop.trips) : Fin 2 → Nat :=
  let c0_i32_101 : BitVec 32 := 0#32
  let c0_i32_49 : BitVec 32 := 0#32
  let c1_i32_51 : BitVec 32 := 1#32
  let arg13 : BitVec 32 := Scf.iv c0_i32_49 c1_i32_51 k0_t1
  let c3_i32_100 : BitVec 32 := 3#32
  let v126 : BitVec 32 := Scalar.remsi arg13 c3_i32_100
  ![0, v126.toNat]
def k0_off6 (k0_t1 : Fin k0_t1_loop.trips) : Fin 3 → Nat :=
  let c0_i32_49 : BitVec 32 := 0#32
  let c1_i32_51 : BitVec 32 := 1#32
  let arg13 : BitVec 32 := Scf.iv c0_i32_49 c1_i32_51 k0_t1
  let c3_i32_100 : BitVec 32 := 3#32
  let v126 : BitVec 32 := Scalar.remsi arg13 c3_i32_100
  let c0_i32_102 : BitVec 32 := 0#32
  let c0_i32_103 : BitVec 32 := 0#32
  ![v126.toNat, 0, 0]
def k0_off7 (k0_t1 : Fin k0_t1_loop.trips) : Fin 3 → Nat :=
  let c0_i32_49 : BitVec 32 := 0#32
  let c1_i32_51 : BitVec 32 := 1#32
  let arg13 : BitVec 32 := Scf.iv c0_i32_49 c1_i32_51 k0_t1
  let c0_i32_104 : BitVec 32 := 0#32
  let c0_i32_105 : BitVec 32 := 0#32
  ![arg13.toNat, 0, 0]
def k0_off8 (k0_t1 : Fin k0_t1_loop.trips) : Fin 2 → Nat :=
  let c1_i32_106 : BitVec 32 := 1#32
  let c0_i32_49 : BitVec 32 := 0#32
  let c1_i32_51 : BitVec 32 := 1#32
  let arg13 : BitVec 32 := Scf.iv c0_i32_49 c1_i32_51 k0_t1
  let c3_i32_100 : BitVec 32 := 3#32
  let v126 : BitVec 32 := Scalar.remsi arg13 c3_i32_100
  ![1, v126.toNat]
def k0_cond2 (k0_t1 : Fin k0_t1_loop.trips) : BitVec 1 :=
  let c0_i32_49 : BitVec 32 := 0#32
  let c1_i32_51 : BitVec 32 := 1#32
  let arg13 : BitVec 32 := Scf.iv c0_i32_49 c1_i32_51 k0_t1
  let c3_i32_117 : BitVec 32 := 3#32
  let v157 : BitVec 1 := Scalar.cmpi .sge arg13 c3_i32_117
  let v158 : BitVec 32 := Scalar.extui v157
  let c0_i32_118 : BitVec 32 := 0#32
  let v159 : BitVec 1 := Scalar.cmpi .ne v158 c0_i32_118
  v159

def k0_off9 (k0_t1 : Fin k0_t1_loop.trips) : Fin 2 → Nat :=
  let c0_i32_138 : BitVec 32 := 0#32
  let c0_i32_49 : BitVec 32 := 0#32
  let c1_i32_51 : BitVec 32 := 1#32
  let arg13 : BitVec 32 := Scf.iv c0_i32_49 c1_i32_51 k0_t1
  let c3_i32_100 : BitVec 32 := 3#32
  let v126 : BitVec 32 := Scalar.remsi arg13 c3_i32_100
  ![0, v126.toNat]
def k0_off10 (k0_t1 : Fin k0_t1_loop.trips) : Fin 3 → Nat :=
  let c0_i32_49 : BitVec 32 := 0#32
  let c1_i32_51 : BitVec 32 := 1#32
  let arg13 : BitVec 32 := Scf.iv c0_i32_49 c1_i32_51 k0_t1
  let c3_i32_137 : BitVec 32 := 3#32
  let v192 : BitVec 32 := Scalar.subi arg13 c3_i32_137
  let c0_i32_139 : BitVec 32 := 0#32
  let c0_i32_140 : BitVec 32 := 0#32
  ![v192.toNat, 0, 0]
def k0_off11 (k0_t1 : Fin k0_t1_loop.trips) : Fin 3 → Nat :=
  let c0_i32_49 : BitVec 32 := 0#32
  let c1_i32_51 : BitVec 32 := 1#32
  let arg13 : BitVec 32 := Scf.iv c0_i32_49 c1_i32_51 k0_t1
  let c3_i32_100 : BitVec 32 := 3#32
  let v126 : BitVec 32 := Scalar.remsi arg13 c3_i32_100
  let c0_i32_141 : BitVec 32 := 0#32
  let c0_i32_142 : BitVec 32 := 0#32
  ![v126.toNat, 0, 0]
def k0_off12 (k0_t1 : Fin k0_t1_loop.trips) : Fin 2 → Nat :=
  let c1_i32_144 : BitVec 32 := 1#32
  let c0_i32_49 : BitVec 32 := 0#32
  let c1_i32_51 : BitVec 32 := 1#32
  let arg13 : BitVec 32 := Scf.iv c0_i32_49 c1_i32_51 k0_t1
  let c3_i32_100 : BitVec 32 := 3#32
  let v126 : BitVec 32 := Scalar.remsi arg13 c3_i32_100
  ![1, v126.toNat]
def k0_off13 (k0_t1 : Fin k0_t1_loop.trips) : Fin 3 → Nat :=
  let c0_i32_49 : BitVec 32 := 0#32
  let c1_i32_51 : BitVec 32 := 1#32
  let arg13 : BitVec 32 := Scf.iv c0_i32_49 c1_i32_51 k0_t1
  let c3_i32_100 : BitVec 32 := 3#32
  let v126 : BitVec 32 := Scalar.remsi arg13 c3_i32_100
  let v160 : Index := Scalar.indexCast v126
  let c0_119 : Index := 0#32
  let c0_120 : Index := 0#32
  ![v160.toNat, 0, 0]
abbrev stage0_0 : Fin 1 → Memref sig .tc .vmem S65x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x32x32x32 : Shape := ⟨4, ![1024, 32, 32, 32]⟩
abbrev S64x32 : Shape := ⟨2, ![64, 32]⟩
abbrev S65x32 : Shape := ⟨2, ![65, 32]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S32x32x1 : Shape := ⟨3, ![32, 32, 1]⟩
abbrev S1 : Shape := ⟨1, ![1]⟩
abbrev S1x1x1 : Shape := ⟨3, ![1, 1, 1]⟩
abbrev S32x32x32 : Shape := ⟨3, ![32, 32, 32]⟩
abbrev S1x32x32x32 : Shape := ⟨4, ![1, 32, 32, 32]⟩

abbrev nBuf : Space → Nat
  | .hbm => 112
  | .vmem => 0
  | .smem => 0
  | _ => 0

abbrev bufTy : (tb : Table) → Fin (tcTables nBuf tb) → BufTy
  | .hbm, ⟨0, _⟩ => ⟨S1024x32x32x32, .f32⟩
  | .hbm, ⟨1, _⟩ => ⟨S1024x32x32x32, .f32⟩
  | .hbm, ⟨2, _⟩ => ⟨S1024x32x32x32, .f32⟩
  | .hbm, ⟨3, _⟩ => ⟨S64x32, .f32⟩
  | .hbm, ⟨4, _⟩ => ⟨S65x32, .f32⟩
  | .hbm, ⟨5, _⟩ => ⟨S65x32, .f32⟩
  | .hbm, ⟨6, _⟩ => ⟨S32, .i32⟩
  | .hbm, ⟨7, _⟩ => ⟨S32x1, .i32⟩
  | .hbm, ⟨8, _⟩ => ⟨S1x32, .i32⟩
  | .hbm, ⟨9, _⟩ => ⟨S32x32, .i32⟩
  | .hbm, ⟨10, _⟩ => ⟨S32x32, .i32⟩
  | .hbm, ⟨11, _⟩ => ⟨S32x32, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S32x32, .i32⟩
  | .hbm, ⟨16, _⟩ => ⟨S32x32, .i32⟩
  | .hbm, ⟨17, _⟩ => ⟨S_, .i32⟩
  | .hbm, ⟨18, _⟩ => ⟨S32x32, .i32⟩
  | .hbm, ⟨19, _⟩ => ⟨S32x32, .i32⟩
  | .hbm, ⟨20, _⟩ => ⟨S_, .i32⟩
  | .hbm, ⟨21, _⟩ => ⟨S32x32, .i32⟩
  | .hbm, ⟨22, _⟩ => ⟨S32x32, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S32x32, .i32⟩
  | .hbm, ⟨27, _⟩ => ⟨S32x32, .i32⟩
  | .hbm, ⟨28, _⟩ => ⟨S_, .i32⟩
  | .hbm, ⟨29, _⟩ => ⟨S32x32, .i32⟩
  | .hbm, ⟨30, _⟩ => ⟨S32x32, .i32⟩
  | .hbm, ⟨31, _⟩ => ⟨S_, .i32⟩
  | .hbm, ⟨32, _⟩ => ⟨S32x32, .i32⟩
  | .hbm, ⟨33, _⟩ => ⟨S32x32, .i32⟩
  | .hbm, ⟨34, _⟩ => ⟨S_, .i32⟩
  | .hbm, ⟨35, _⟩ => ⟨S32x32, .i32⟩
  | .hbm, ⟨36, _⟩ => ⟨S32x32, .i1⟩
  | .hbm, ⟨37, _⟩ => ⟨S_, .i32⟩
  | .hbm, ⟨38, _⟩ => ⟨S32x32, .i32⟩
  | .hbm, ⟨39, _⟩ => ⟨S32x32, .i32⟩
  | .hbm, ⟨40, _⟩ => ⟨S32x32, .i32⟩
  | .hbm, ⟨41, _⟩ => ⟨S32x32x1, .i32⟩
  | .hbm, ⟨42, _⟩ => ⟨S1, .i32⟩
  | .hbm, ⟨43, _⟩ => ⟨S_, .i32⟩
  | .hbm, ⟨44, _⟩ => ⟨S32x32x1, .i32⟩
  | .hbm, ⟨45, _⟩ => ⟨S32x32x1, .i1⟩
  | .hbm, ⟨46, _⟩ => ⟨S1x1x1, .i32⟩
  | .hbm, ⟨47, _⟩ => ⟨S32x32x1, .i32⟩
  | .hbm, ⟨48, _⟩ => ⟨S32x32x1, .i1⟩
  | .hbm, ⟨49, _⟩ => ⟨S32x32x1, .i1⟩
  | .hbm, ⟨50, _⟩ => ⟨S_, .i1⟩
  | .hbm, ⟨51, _⟩ => ⟨S32x32, .i1⟩
  | .hbm, ⟨52, _⟩ => ⟨S32x32x32, .f32⟩
  | .hbm, ⟨53, _⟩ => ⟨S32x32x32, .i1⟩
  | .hbm, ⟨54, _⟩ => ⟨S_, .f32⟩
  | .hbm, ⟨55, _⟩ => ⟨S32x32x32, .f32⟩
  | .hbm, ⟨56, _⟩ => ⟨S32x32x32, .f32⟩
  | .hbm, ⟨57, _⟩ => ⟨S32x32x32, .f32⟩
  | .hbm, ⟨58, _⟩ => ⟨S_, .i32⟩
  | .hbm, ⟨59, _⟩ => ⟨S32x32, .i32⟩
  | .hbm, ⟨60, _⟩ => ⟨S32x32, .i1⟩
  | .hbm, ⟨61, _⟩ => ⟨S_, .i32⟩
  | .hbm, ⟨62, _⟩ => ⟨S32x32, .i32⟩
  | .hbm, ⟨63, _⟩ => ⟨S32x32, .i32⟩
  | .hbm, ⟨64, _⟩ => ⟨S32x32, .i32⟩
  | .hbm, ⟨65, _⟩ => ⟨S32x32x1, .i32⟩
  | .hbm, ⟨66, _⟩ => ⟨S1, .i32⟩
  | .hbm, ⟨67, _⟩ => ⟨S_, .i32⟩
  | .hbm, ⟨68, _⟩ => ⟨S32x32x1, .i32⟩
  | .hbm, ⟨69, _⟩ => ⟨S32x32x1, .i1⟩
  | .hbm, ⟨70, _⟩ => ⟨S1x1x1, .i32⟩
  | .hbm, ⟨71, _⟩ => ⟨S32x32x1, .i32⟩
  | .hbm, ⟨72, _⟩ => ⟨S32x32x1, .i1⟩
  | .hbm, ⟨73, _⟩ => ⟨S32x32x1, .i1⟩
  | .hbm, ⟨74, _⟩ => ⟨S_, .i1⟩
  | .hbm, ⟨75, _⟩ => ⟨S32x32, .i1⟩
  | .hbm, ⟨76, _⟩ => ⟨S32x32x32, .f32⟩
  | .hbm, ⟨77, _⟩ => ⟨S32x32x32, .i1⟩
  | .hbm, ⟨78, _⟩ => ⟨S_, .f32⟩
  | .hbm, ⟨79, _⟩ => ⟨S32x32x32, .f32⟩
  | .hbm, ⟨80, _⟩ => ⟨S32x32x32, .f32⟩
  | .hbm, ⟨81, _⟩ => ⟨S_, .i32⟩
  | .hbm, ⟨82, _⟩ => ⟨S32x32, .i32⟩
  | .hbm, ⟨83, _⟩ => ⟨S32x32, .i1⟩
  | .hbm, ⟨84, _⟩ => ⟨S_, .i32⟩
  | .hbm, ⟨85, _⟩ => ⟨S32x32, .i32⟩
  | .hbm, ⟨86, _⟩ => ⟨S32x32, .i32⟩
  | .hbm, ⟨87, _⟩ => ⟨S32x32, .i32⟩
  | .hbm, ⟨88, _⟩ => ⟨S32x32x1, .i32⟩
  | .hbm, ⟨89, _⟩ => ⟨S1, .i32⟩
  | .hbm, ⟨90, _⟩ => ⟨S_, .i32⟩
  | .hbm, ⟨91, _⟩ => ⟨S32x32x1, .i32⟩
  | .hbm, ⟨92, _⟩ => ⟨S32x32x1, .i1⟩
  | .hbm, ⟨93, _⟩ => ⟨S1x1x1, .i32⟩
  | .hbm, ⟨94, _⟩ => ⟨S32x32x1, .i32⟩
  | .hbm, ⟨95, _⟩ => ⟨S32x32x1, .i1⟩
  | .hbm, ⟨96, _⟩ => ⟨S32x32x1, .i1⟩
  | .hbm, ⟨97, _⟩ => ⟨S_, .i1⟩
  | .hbm, ⟨98, _⟩ => ⟨S32x32, .i1⟩
  | .hbm, ⟨99, _⟩ => ⟨S32x32x32, .f32⟩
  | .hbm, ⟨100, _⟩ => ⟨S32x32x32, .i1⟩
  | .hbm, ⟨101, _⟩ => ⟨S_, .f32⟩
  | .hbm, ⟨102, _⟩ => ⟨S32x32x32, .f32⟩
  | .hbm, ⟨103, _⟩ => ⟨S32x32x32, .f32⟩
  | .hbm, ⟨104, _⟩ => ⟨S32x32x32, .f32⟩
  | .hbm, ⟨105, _⟩ => ⟨S1x32x32x32, .f32⟩
  | .hbm, ⟨106, _⟩ => ⟨S32x32x32, .f32⟩
  | .hbm, ⟨107, _⟩ => ⟨S1x32x32x32, .f32⟩
  | .hbm, ⟨108, _⟩ => ⟨S1024x32x32x32, .f32⟩
  | .hbm, ⟨109, _⟩ => ⟨S1024x32x32x32, .f32⟩
  | .hbm, ⟨110, _⟩ => ⟨S1024x32x32x32, .f32⟩
  | .hbm, ⟨111, _⟩ => ⟨S1024x32x32x32, .f32⟩
  | _, _ => ⟨S1024x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_c_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v9 : Ref sig .tc := ⟨.hbm, 30, rfl⟩
abbrev main_c_4 : Ref sig .tc := ⟨.hbm, 31, rfl⟩
abbrev main_v10 : Ref sig .tc := ⟨.hbm, 32, rfl⟩
abbrev main_v11 : Ref sig .tc := ⟨.hbm, 33, rfl⟩
abbrev main_call2_c : Ref sig .tc := ⟨.hbm, 34, rfl⟩
abbrev main_call2_v0 : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_c_1 : Ref sig .tc := ⟨.hbm, 42, rfl⟩
abbrev main_call2_c_2 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_3 : Ref sig .tc := ⟨.hbm, 50, rfl⟩
abbrev main_call2_v12 : Ref sig .tc := ⟨.hbm, 51, rfl⟩
abbrev main_call2_v13 : Ref sig .tc := ⟨.hbm, 52, rfl⟩
abbrev main_call2_v14 : Ref sig .tc := ⟨.hbm, 53, rfl⟩
abbrev main_call2_cst : Ref sig .tc := ⟨.hbm, 54, rfl⟩
abbrev main_call2_v15 : Ref sig .tc := ⟨.hbm, 55, rfl⟩
abbrev main_v12 : Ref sig .tc := ⟨.hbm, 56, rfl⟩
abbrev main_v13 : Ref sig .tc := ⟨.hbm, 57, rfl⟩
abbrev main_call3_c : Ref sig .tc := ⟨.hbm, 58, rfl⟩
abbrev main_call3_v0 : Ref sig .tc := ⟨.hbm, 59, rfl⟩
abbrev main_call3_v1 : Ref sig .tc := ⟨.hbm, 60, rfl⟩
abbrev main_call3_c_0 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_c_1 : Ref sig .tc := ⟨.hbm, 66, rfl⟩
abbrev main_call3_c_2 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_call3_c_3 : Ref sig .tc := ⟨.hbm, 74, rfl⟩
abbrev main_call3_v12 : Ref sig .tc := ⟨.hbm, 75, rfl⟩
abbrev main_call3_v13 : Ref sig .tc := ⟨.hbm, 76, rfl⟩
abbrev main_call3_v14 : Ref sig .tc := ⟨.hbm, 77, rfl⟩
abbrev main_call3_cst : Ref sig .tc := ⟨.hbm, 78, rfl⟩
abbrev main_call3_v15 : Ref sig .tc := ⟨.hbm, 79, rfl⟩
abbrev main_v14 : Ref sig .tc := ⟨.hbm, 80, rfl⟩
abbrev main_call4_c : Ref sig .tc := ⟨.hbm, 81, rfl⟩
abbrev main_call4_v0 : Ref sig .tc := ⟨.hbm, 82, rfl⟩
abbrev main_call4_v1 : Ref sig .tc := ⟨.hbm, 83, rfl⟩
abbrev main_call4_c_0 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_call4_v5 : Ref sig .tc := ⟨.hbm, 88, rfl⟩
abbrev main_call4_c_1 : Ref sig .tc := ⟨.hbm, 89, rfl⟩
abbrev main_call4_c_2 : Ref sig .tc := ⟨.hbm, 90, rfl⟩
abbrev main_call4_v6 : Ref sig .tc := ⟨.hbm, 91, rfl⟩
abbrev main_call4_v7 : Ref sig .tc := ⟨.hbm, 92, rfl⟩
abbrev main_call4_v8 : Ref sig .tc := ⟨.hbm, 93, rfl⟩
abbrev main_call4_v9 : Ref sig .tc := ⟨.hbm, 94, rfl⟩
abbrev main_call4_v10 : Ref sig .tc := ⟨.hbm, 95, rfl⟩
abbrev main_call4_v11 : Ref sig .tc := ⟨.hbm, 96, rfl⟩
abbrev main_call4_c_3 : Ref sig .tc := ⟨.hbm, 97, rfl⟩
abbrev main_call4_v12 : Ref sig .tc := ⟨.hbm, 98, rfl⟩
abbrev main_call4_v13 : Ref sig .tc := ⟨.hbm, 99, rfl⟩
abbrev main_call4_v14 : Ref sig .tc := ⟨.hbm, 100, rfl⟩
abbrev main_call4_cst : Ref sig .tc := ⟨.hbm, 101, rfl⟩
abbrev main_call4_v15 : Ref sig .tc := ⟨.hbm, 102, rfl⟩
abbrev main_v15 : Ref sig .tc := ⟨.hbm, 103, rfl⟩
abbrev main_v16 : Ref sig .tc := ⟨.hbm, 104, rfl⟩
abbrev main_v17 : Ref sig .tc := ⟨.hbm, 105, rfl⟩
abbrev main_v18 : Ref sig .tc := ⟨.hbm, 106, rfl⟩
abbrev main_v19 : Ref sig .tc := ⟨.hbm, 107, rfl⟩
abbrev main_v20 : Ref sig .tc := ⟨.hbm, 108, rfl⟩
abbrev main_v21 : Ref sig .tc := ⟨.hbm, 109, rfl⟩
abbrev main_v22 : Ref sig .tc := ⟨.hbm, 110, rfl⟩
abbrev main_v23 : Ref sig .tc := ⟨.hbm, 111, rfl⟩

abbrev nD : Nat := 1
abbrev τ : Topo := Topo.v7x

variable {F : FTy → Type} [FloatOps F]
-- ==== Proof.KernelIdeal.Names.lean ====
/-
  Names for the pieces of memory the kernel `KernelIdeal` streams through: block `b` of an array of 32 blocks left in HBM,
  slot `s` of a three-slot buffer, and the DMA semaphore `(i, s)` of a two-by-three array — with the closed forms of the
  offsets the loop computes at trip `k` (slot `k % 3`, block `k`, and so on) and the equations that turn the kernel's own
  slices into these names.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Ring.Trips
public import Idealize.ShloMosaic.Lib.Affine
public import Idealize.ShloMosaic.Lib.Tactic
public import Idealize.ShloMosaic.Lib.Pipeline.FrameSuffixV

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The buffers -/

/-- `k` transposed, `v` transposed (read), and the two results (written), all in HBM; -/
abbrev ktM : Memref sig .tc .hbm S32x1024x1024 .f32 := Memref.whole main_v1
/-- The second array read. -/
abbrev vtM : Memref sig .tc .hbm S32x1024x1024 .f32 := Memref.whole main_v3
/-- The first array written. -/
abbrev koM : Memref sig .tc .hbm S32x1024x1024 .f32 := Memref.whole main_v6_0
/-- The second array written. -/
abbrev voM : Memref sig .tc .hbm S32x1024x1024 .f32 := Memref.whole main_v6_1
/-- the four three-slot buffers and the table's buffer, in VMEM. -/
abbrev kbM : Memref sig .tc .vmem S3x1024x1024 .f32 := Memref.whole cc0_scratch0
/-- The buffer for reads of the second array. -/
abbrev vbM : Memref sig .tc .vmem S3x1024x1024 .f32 := Memref.whole cc0_scratch1
/-- The buffer for writes of the first array. -/
abbrev kobM : Memref sig .tc .vmem S3x1024x1024 .f32 := Memref.whole cc0_scratch2
/-- The buffer for writes of the second array. -/
abbrev vobM : Memref sig .tc .vmem S3x1024x1024 .f32 := Memref.whole cc0_scratch3
/-- The row table. -/
abbrev ttM : Memref sig .tc .vmem S1024x96 .f32 := Memref.whole cc0_scratch4

/-! ## Blocks, slots and semaphores -/

abbrev blkOff (b : Fin 32) : Fin 3 → Nat := ![b.val, 0, 0]
/-- Where a slot of a buffer starts. -/
abbrev slotOff (s : Fin 3) : Fin 3 → Nat := ![s.val, 0, 0]
/-- The place of a semaphore in its array. -/
abbrev semOff (i : Fin 2) (s : Fin 3) : Fin 2 → Nat := ![i.val, s.val]

/-- Every block lies within its array. -/
theorem blkOff_inb (b : Fin 32) : ∀ a, blkOff b a + S1x1024x1024.size a ≤ S32x1024x1024.size a := by
  have := b.isLt; intro a; fin_cases a
  · show b.val + 1 ≤ 32; omega
  · show 0 + 1024 ≤ 1024; omega
  · show 0 + 1024 ≤ 1024; omega
/-- Every slot lies within its buffer. -/
theorem slotOff_inb (s : Fin 3) : ∀ a, slotOff s a + S1x1024x1024.size a ≤ S3x1024x1024.size a := by
  have := s.isLt; intro a; fin_cases a
  · show s.val + 1 ≤ 3; omega
  · show 0 + 1024 ≤ 1024; omega
  · show 0 + 1024 ≤ 1024; omega
/-- Every semaphore lies within its array. -/
theorem semOff_inb (i : Fin 2) (s : Fin 3) : ∀ a, semOff i s a + S1x1.size a ≤ S2x3.size a := by
  have := i.isLt; have := s.isLt; intro a; fin_cases a
  · show i.val + 1 ≤ 2; omega
  · show s.val + 1 ≤ 3; omega

/-- Block `b`'s box in an array of 32 blocks, and slot `s`'s box in a three-slot buffer. -/
abbrev blkR (b : Fin 32) : Rect S32x1024x1024 := Rect.unit (s := S32x1024x1024) (blkOff b) S1x1024x1024.size (blkOff_inb b)
/-- The rectangle of a slot. -/
abbrev slotR (s : Fin 3) : Rect S3x1024x1024 := Rect.unit (s := S3x1024x1024) (slotOff s) S1x1024x1024.size (slotOff_inb s)

/-- Block `b` of the array `M`, as the kernel slices and squeezes it. -/
def blk (M : Memref sig .tc .hbm S32x1024x1024 .f32) (b : Fin 32) : Memref sig .tc .hbm S1024x1024 .f32 :=
  (M.slice (blkR b) (fun _ => rfl)).squeeze S1024x1024 squeezes_S1x1024x1024_S1024x1024
/-- Slot `s` of the buffer `B`, as the kernel slices and squeezes it. -/
def slot (B : Memref sig .tc .vmem S3x1024x1024 .f32) (s : Fin 3) : Memref sig .tc .vmem S1024x1024 .f32 :=
  (B.slice (slotR s) (fun _ => rfl)).squeeze S1024x1024 squeezes_S1x1024x1024_S1024x1024
/-- The semaphore `(i, s)` of the array `A`. -/
def sem (A : DmaSems sig S2x3) (i : Fin 2) (s : Fin 3) : DmaSems sig S_ :=
  (A.slice (Rect.unit (s := S2x3) (semOff i s) S1x1.size (semOff_inb i s))).squeeze S_ squeezes_S1x1_S_

instance (s : Fin 3) : ClosedOff (slotOff s) := ⟨slotOff s, rfl⟩
instance (b : Fin 32) : ClosedOff (blkOff b) := ⟨blkOff b, rfl⟩

/-! ## The loop's offsets at trip `k`, in closed form -/

/-- The loop makes 32 trips. -/
theorem trips_eq : k0_t1_loop.trips = 32 := by decide +kernel

/-- A trip number is below 32. -/
theorem trip_lt (k : Fin k0_t1_loop.trips) : k.val < 32 := Nat.lt_of_lt_of_eq k.isLt trips_eq

/-- Trip `k` starts a read exactly when block `k + 2` exists, -/
theorem cond1_iff : ∀ k : Fin k0_t1_loop.trips, k0_cond1 k = 1#1 ↔ k.val + 2 < 32 := by decide +kernel
/-- and waits for a write exactly when block `k - 3` exists. -/
theorem cond2_iff : ∀ k : Fin k0_t1_loop.trips, k0_cond2 k = 1#1 ↔ 3 ≤ k.val := by decide +kernel

/-- A trip starts the read of the block two ahead. The first array's semaphore is that of the block's slot, -/
theorem off1_eq : ∀ k : Fin k0_t1_loop.trips, k0_off1 k = semOff 0 (Ring.sl 3 (k.val + 2)) := by decide +kernel
/-- its target is that slot, -/
theorem off2_eq : ∀ k : Fin k0_t1_loop.trips, k0_off2 k = slotOff (Ring.sl 3 (k.val + 2)) := by decide +kernel
/-- its source is that block, -/
theorem off3_eq : ∀ k : Fin k0_t1_loop.trips, k.val + 2 < 32 → k0_off3 k = blkOff (Ring.bk 32 (k.val + 2)) := by decide +kernel
/-- and the second array's semaphore is that of the slot. -/
theorem off4_eq : ∀ k : Fin k0_t1_loop.trips, k0_off4 k = semOff 1 (Ring.sl 3 (k.val + 2)) := by decide +kernel
/-- A trip waits for a read, and starts a write, of its own block. The first array's semaphore is that of the block's slot, -/
theorem off5_eq : ∀ k : Fin k0_t1_loop.trips, k0_off5 k = semOff 0 (Ring.sl 3 k.val) := by decide +kernel
/-- the buffer is that slot, -/
theorem off6_eq : ∀ k : Fin k0_t1_loop.trips, k0_off6 k = slotOff (Ring.sl 3 k.val) := by decide +kernel
/-- the array's part is that block, -/
theorem off7_eq : ∀ k : Fin k0_t1_loop.trips, k0_off7 k = blkOff (Ring.bk 32 k.val) := by decide +kernel
/-- and the second array's semaphore is that of the slot. -/
theorem off8_eq : ∀ k : Fin k0_t1_loop.trips, k0_off8 k = semOff 1 (Ring.sl 3 k.val) := by decide +kernel
/-- A trip waits for the write of the block three back. The first array's semaphore is that of the trip's own slot, -/
theorem off9_eq : ∀ k : Fin k0_t1_loop.trips, k0_off9 k = semOff 0 (Ring.sl 3 k.val) := by decide +kernel
/-- the array's part is the block three back, -/
theorem off10_eq : ∀ k : Fin k0_t1_loop.trips, 3 ≤ k.val → k0_off10 k = blkOff (Ring.bk 32 (k.val - 3)) := by decide +kernel
/-- the buffer is the trip's slot, -/
theorem off11_eq : ∀ k : Fin k0_t1_loop.trips, k0_off11 k = slotOff (Ring.sl 3 k.val) := by decide +kernel
/-- and the second array's semaphore is that of the slot. -/
theorem off12_eq : ∀ k : Fin k0_t1_loop.trips, k0_off12 k = semOff 1 (Ring.sl 3 k.val) := by decide +kernel
/-- A trip loads from and stores to its own slot. -/
theorem off13_eq : ∀ k : Fin k0_t1_loop.trips, k0_off13 k = slotOff (Ring.sl 3 k.val) := by decide +kernel

instance (k : Fin k0_t1_loop.trips) : ClosedOff (k0_off2 k) := ⟨slotOff (Ring.sl 3 (k.val + 2)), off2_eq k⟩
instance (k : Fin k0_t1_loop.trips) : ClosedOff (k0_off6 k) := ⟨slotOff (Ring.sl 3 k.val), off6_eq k⟩
instance (k : Fin k0_t1_loop.trips) : ClosedOff (k0_off11 k) := ⟨slotOff (Ring.sl 3 k.val), off11_eq k⟩
instance (k : Fin k0_t1_loop.trips) : ClosedOff (k0_off13 k) := ⟨slotOff (Ring.sl 3 k.val), off13_eq k⟩

/-! ## The kernel's slices are these names -/

section Canon

/-- Equal places name equal semaphores. -/
theorem sem_congr (A : DmaSems sig S2x3) {off : Fin 2 → Nat} {i : Fin 2} {s : Fin 3} (e : off = semOff i s) (hh) :
    (A.slice (Rect.unit (s := S2x3) off S1x1.size hh)).squeeze S_ squeezes_S1x1_S_ = sem A i s :=
  congrArg (fun A : DmaSems sig S1x1 => A.squeeze S_ squeezes_S1x1_S_) (SemArray.slice_unit_congr _ e _ _)
/-- Equal offsets name equal slots. -/
theorem slot_congr (B : Memref sig .tc .vmem S3x1024x1024 .f32) {off : Fin 3 → Nat} {s : Fin 3} (e : off = slotOff s) (hh hs) :
    (B.slice (Rect.unit (s := S3x1024x1024) off S1x1024x1024.size hh) hs).squeeze S1024x1024 squeezes_S1x1024x1024_S1024x1024 = slot B s :=
  congrArg (fun M : Memref sig .tc .vmem S1x1024x1024 .f32 => M.squeeze S1024x1024 squeezes_S1x1024x1024_S1024x1024)
    (Memref.slice_unit_congr _ e _ _ _ _)
/-- Equal offsets name equal blocks. -/
theorem blk_congr (M : Memref sig .tc .hbm S32x1024x1024 .f32) {off : Fin 3 → Nat} {b : Fin 32} (e : off = blkOff b) (hh hs) :
    (M.slice (Rect.unit (s := S32x1024x1024) off S1x1024x1024.size hh) hs).squeeze S1024x1024 squeezes_S1x1024x1024_S1024x1024 = blk M b :=
  congrArg (fun M : Memref sig .tc .hbm S1x1024x1024 .f32 => M.squeeze S1024x1024 squeezes_S1x1024x1024_S1024x1024)
    (Memref.slice_unit_congr _ e _ _ _ _)

variable (A : DmaSems sig S2x3) (B : Memref sig .tc .vmem S3x1024x1024 .f32) (M : Memref sig .tc .hbm S32x1024x1024 .f32)

/-- Slices at literal offsets (before the loop and after it). -/
@[sl_canon] theorem semL00 (hh) : (A.slice (Rect.unit (s := S2x3) ![0, 0] S1x1.size hh)).squeeze S_ squeezes_S1x1_S_ = sem A 0 0 := sem_congr A (by decide) _
@[sl_canon] theorem semL01 (hh) : (A.slice (Rect.unit (s := S2x3) ![0, 1] S1x1.size hh)).squeeze S_ squeezes_S1x1_S_ = sem A 0 1 := sem_congr A (by decide) _
@[sl_canon] theorem semL02 (hh) : (A.slice (Rect.unit (s := S2x3) ![0, 2] S1x1.size hh)).squeeze S_ squeezes_S1x1_S_ = sem A 0 2 := sem_congr A (by decide) _
@[sl_canon] theorem semL10 (hh) : (A.slice (Rect.unit (s := S2x3) ![1, 0] S1x1.size hh)).squeeze S_ squeezes_S1x1_S_ = sem A 1 0 := sem_congr A (by decide) _
@[sl_canon] theorem semL11 (hh) : (A.slice (Rect.unit (s := S2x3) ![1, 1] S1x1.size hh)).squeeze S_ squeezes_S1x1_S_ = sem A 1 1 := sem_congr A (by decide) _
@[sl_canon] theorem semL12 (hh) : (A.slice (Rect.unit (s := S2x3) ![1, 2] S1x1.size hh)).squeeze S_ squeezes_S1x1_S_ = sem A 1 2 := sem_congr A (by decide) _
@[sl_canon] theorem slotL0 (hh hs) : (B.slice (Rect.unit (s := S3x1024x1024) ![0, 0, 0] S1x1024x1024.size hh) hs).squeeze S1024x1024 squeezes_S1x1024x1024_S1024x1024 = slot B 0 := slot_congr B (by decide) _ _
@[sl_canon] theorem slotL1 (hh hs) : (B.slice (Rect.unit (s := S3x1024x1024) ![1, 0, 0] S1x1024x1024.size hh) hs).squeeze S1024x1024 squeezes_S1x1024x1024_S1024x1024 = slot B 1 := slot_congr B (by decide) _ _
@[sl_canon] theorem slotL2 (hh hs) : (B.slice (Rect.unit (s := S3x1024x1024) ![2, 0, 0] S1x1024x1024.size hh) hs).squeeze S1024x1024 squeezes_S1x1024x1024_S1024x1024 = slot B 2 := slot_congr B (by decide) _ _
@[sl_canon] theorem blkL0 (hh hs) : (M.slice (Rect.unit (s := S32x1024x1024) ![0, 0, 0] S1x1024x1024.size hh) hs).squeeze S1024x1024 squeezes_S1x1024x1024_S1024x1024 = blk M 0 := blk_congr M (by decide) _ _
@[sl_canon] theorem blkL1 (hh hs) : (M.slice (Rect.unit (s := S32x1024x1024) ![1, 0, 0] S1x1024x1024.size hh) hs).squeeze S1024x1024 squeezes_S1x1024x1024_S1024x1024 = blk M 1 := blk_congr M (by decide) _ _
@[sl_canon] theorem blkL29 (hh hs) : (M.slice (Rect.unit (s := S32x1024x1024) ![29, 0, 0] S1x1024x1024.size hh) hs).squeeze S1024x1024 squeezes_S1x1024x1024_S1024x1024 = blk M 29 := blk_congr M (by decide) _ _
@[sl_canon] theorem blkL30 (hh hs) : (M.slice (Rect.unit (s := S32x1024x1024) ![30, 0, 0] S1x1024x1024.size hh) hs).squeeze S1024x1024 squeezes_S1x1024x1024_S1024x1024 = blk M 30 := blk_congr M (by decide) _ _
@[sl_canon] theorem blkL31 (hh hs) : (M.slice (Rect.unit (s := S32x1024x1024) ![31, 0, 0] S1x1024x1024.size hh) hs).squeeze S1024x1024 squeezes_S1x1024x1024_S1024x1024 = blk M 31 := blk_congr M (by decide) _ _

variable (k : Fin k0_t1_loop.trips)

/-- Trip `k`'s slices: the read it starts (block `k + 2`), -/
@[sl_canon] theorem semI0 (hh) : (A.slice (Rect.unit (s := S2x3) (k0_off1 k) S1x1.size hh)).squeeze S_ squeezes_S1x1_S_ = sem A 0 (Ring.sl 3 (k.val + 2)) := sem_congr A (off1_eq k) _
@[sl_canon] theorem semI1 (hh) : (A.slice (Rect.unit (s := S2x3) (k0_off4 k) S1x1.size hh)).squeeze S_ squeezes_S1x1_S_ = sem A 1 (Ring.sl 3 (k.val + 2)) := sem_congr A (off4_eq k) _
@[sl_canon] theorem slotI (hh hs) : (B.slice (Rect.unit (s := S3x1024x1024) (k0_off2 k) S1x1024x1024.size hh) hs).squeeze S1024x1024 squeezes_S1x1024x1024_S1024x1024 = slot B (Ring.sl 3 (k.val + 2)) := slot_congr B (off2_eq k) _ _
@[sl_canon] theorem blkI (hk : k.val + 2 < 32) (hh hs) : (M.slice (Rect.unit (s := S32x1024x1024) (k0_off3 k) S1x1024x1024.size hh) hs).squeeze S1024x1024 squeezes_S1x1024x1024_S1024x1024 = blk M (Ring.bk 32 (k.val + 2)) := blk_congr M (off3_eq k hk) _ _
/-- the read it waits for and the write it starts (block `k`), -/
@[sl_canon] theorem semW0 (hh) : (A.slice (Rect.unit (s := S2x3) (k0_off5 k) S1x1.size hh)).squeeze S_ squeezes_S1x1_S_ = sem A 0 (Ring.sl 3 k.val) := sem_congr A (off5_eq k) _
@[sl_canon] theorem semW1 (hh) : (A.slice (Rect.unit (s := S2x3) (k0_off8 k) S1x1.size hh)).squeeze S_ squeezes_S1x1_S_ = sem A 1 (Ring.sl 3 k.val) := sem_congr A (off8_eq k) _
@[sl_canon] theorem slotW (hh hs) : (B.slice (Rect.unit (s := S3x1024x1024) (k0_off6 k) S1x1024x1024.size hh) hs).squeeze S1024x1024 squeezes_S1x1024x1024_S1024x1024 = slot B (Ring.sl 3 k.val) := slot_congr B (off6_eq k) _ _
@[sl_canon] theorem blkW (hh hs) : (M.slice (Rect.unit (s := S32x1024x1024) (k0_off7 k) S1x1024x1024.size hh) hs).squeeze S1024x1024 squeezes_S1x1024x1024_S1024x1024 = blk M (Ring.bk 32 k.val) := blk_congr M (off7_eq k) _ _
/-- and the write it waits for (block `k - 3`). -/
@[sl_canon] theorem semO0 (hh) : (A.slice (Rect.unit (s := S2x3) (k0_off9 k) S1x1.size hh)).squeeze S_ squeezes_S1x1_S_ = sem A 0 (Ring.sl 3 k.val) := sem_congr A (off9_eq k) _
@[sl_canon] theorem semO1 (hh) : (A.slice (Rect.unit (s := S2x3) (k0_off12 k) S1x1.size hh)).squeeze S_ squeezes_S1x1_S_ = sem A 1 (Ring.sl 3 k.val) := sem_congr A (off12_eq k) _
@[sl_canon] theorem slotO (hh hs) : (B.slice (Rect.unit (s := S3x1024x1024) (k0_off11 k) S1x1024x1024.size hh) hs).squeeze S1024x1024 squeezes_S1x1024x1024_S1024x1024 = slot B (Ring.sl 3 k.val) := slot_congr B (off11_eq k) _ _
@[sl_canon] theorem blkO (hk : 3 ≤ k.val) (hh hs) : (M.slice (Rect.unit (s := S32x1024x1024) (k0_off10 k) S1x1024x1024.size hh) hs).squeeze S1024x1024 squeezes_S1x1024x1024_S1024x1024 = blk M (Ring.bk 32 (k.val - 3)) := blk_congr M (off10_eq k hk) _ _

end Canon

end Cert.Proof.KernelIdeal

end
-- ==== Proof.KernelIdeal.Pieces.lean ====
/-
  The pieces of memory the kernel `KernelIdeal` holds between its steps: a semaphore at zero, a slot, a block, a read in
  flight (block to slot) and a write in flight (slot to block).
-/
module

public import proofs.«01_k».proof.Proof.KernelIdeal.Names
public import Idealize.ShloMosaic.Lib.VecWindow

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline library's algebra beside the counters the kernel's own transfers ride on. -/
abbrev UU (nD : Nat) (τ : Topo) : Type := UR sig nD τ × Counters
local notation "𝕄" => MT nD τ sig Unit (Elt F) ℕ (UU nD τ) ℕ
/-- No loop variants are used. -/
abbrev 𝒱₀ : Variants := Variants.none

section Pieces
variable (c : Dev nD)
  (A : DmaSems sig S2x3) (i : Fin 2) (s : Fin 3) (b : Fin 32)
  (B : Memref sig .tc .vmem S3x1024x1024 .f32) (M : Memref sig .tc .hbm S32x1024x1024 .f32)

/-- The semaphore `(i, s)` at zero. -/
abbrev cellP : sProp 𝕄 := semVal ((c : Thread nD τ), SemLoc.dma (sem A i s).sem) 0
/-- Slot `s` of `B`, at the contents `f`. -/
abbrev slotP (f : Buf (Elt F) (B.view.loc (c : Thread nD τ))) : sProp 𝕄 :=
  (slot B s).view.loc (c : Thread nD τ) ↦[(slot B s).view.set]{fullShare} f
/-- Block `b` of `M`, at the contents `X`. -/
abbrev blkP (X : Buf (Elt F) (M.view.loc (c : Thread nD τ))) : sProp 𝕄 :=
  (blk M b).view.loc (c : Thread nD τ) ↦[(blk M b).view.set]{fullShare} X
/-- The elements of block `b` at the contents `X`, -/
abbrev blkData (X : Buf (Elt F) (M.view.loc (c : Thread nD τ))) : S1024x1024.Idx → Elt F .f32 :=
  ReadAs.same.apply ((blk M b).view.read (Elt F) X)
/-- and of slot `s`. -/
abbrev slotData (f : Buf (Elt F) (B.view.loc (c : Thread nD τ))) : S1024x1024.Idx → Elt F .f32 :=
  ReadAs.same.apply ((slot B s).view.read (Elt F) f)
/-- The buffer `B` once block `b` has landed in slot `s`. -/
abbrev landed (X : Buf (Elt F) (M.view.loc (c : Thread nD τ))) (f : Buf (Elt F) (B.view.loc (c : Thread nD τ))) :
    Buf (Elt F) ((slot B s).view.loc (c : Thread nD τ)) :=
  (slot B s).view.writes (Elt F) f [⟨Rect.whole S1024x1024, blkData c b M X⟩]
/-- The array `M` once slot `s` has landed in block `b`. -/
abbrev landedOut (X : Buf (Elt F) (M.view.loc (c : Thread nD τ))) (f : Buf (Elt F) (B.view.loc (c : Thread nD τ))) :
    Buf (Elt F) ((blk M b).view.loc (c : Thread nD τ)) :=
  (blk M b).view.writes (Elt F) X [⟨Rect.whole S1024x1024, slotData c s B f⟩]

end Pieces

/-! ## Reading and storing a slot through the whole buffer -/

section SlotAccess
variable (c : Dev nD) (B : Memref sig .tc .vmem S3x1024x1024 .f32)

/-- An index of a block, as an index of the box of size one by the block; and back. -/
abbrev box (y : S1024x1024.Idx) : S1x1024x1024.Idx := Shape.reshapeEquiv squeezes_S1x1024x1024_S1024x1024.numel_eq y
/-- An index of a one-block rectangle as an index of the block. -/
abbrev flat (z : S1x1024x1024.Idx) : S1024x1024.Idx := Shape.reshapeEquiv squeezes_S1x1024x1024_S1024x1024.numel_eq.symm z

omit [FloatOps F] in
theorem box_flat (z : S1x1024x1024.Idx) : box (flat z) = z := by
  unfold box flat; rw [Shape.reshapeEquiv_reshapeEquiv, Shape.reshapeEquiv_self]

omit [FloatOps F] in
/-- A store through the buffer at a slot's box leaves in the slot what was stored, -/
theorem read_slot_store {off : Fin 3 → Nat} {s : Fin 3} (e : off = slotOff s) (inb : ∀ a, off a + S1x1024x1024.size a ≤ S3x1024x1024.size a)
    (f : Buf (Elt F) (B.view.loc (c : Thread nD τ))) (w : S1x1024x1024.Idx → Elt F .f32) :
    (slot B s).view.read (Elt F) ((B.access (Rect.unit (s := S3x1024x1024) off S1x1024x1024.size inb)).write (Elt F) f w Finset.univ)
      = fun y => w (box y) := by
  subst e
  funext y
  exact congrFun (Memref.read_slice_write B inb rfl (slotOff_inb s) f w) (box y)

omit [FloatOps F] in
/-- and a load through the buffer at a slot's box reads the slot. -/
theorem load_slot {off : Fin 3 → Nat} {s : Fin 3} (e : off = slotOff s) (inb : ∀ a, off a + S1x1024x1024.size a ≤ S3x1024x1024.size a)
    (f : Buf (Elt F) (B.view.loc (c : Thread nD τ))) :
    B.view.readAt (Elt F) (Rect.unit (s := S3x1024x1024) off S1x1024x1024.size inb).toLoadRect f
      = fun z => (slot B s).view.read (Elt F) f (flat z) := by
  subst e
  funext z
  exact congrArg (B.view.readAt (Elt F) (Rect.unit (s := S3x1024x1024) (slotOff s) S1x1024x1024.size inb).toLoadRect f) (box_flat z).symm

end SlotAccess

/-! ## A read ring: the blocks of one operand streamed through three slots -/

section ReadRing
variable (c : Dev nD)
  (A : DmaSems sig S2x3) (i : Fin 2)
  (B : Memref sig .tc .vmem S3x1024x1024 .f32) (M : Memref sig .tc .hbm S32x1024x1024 .f32)
  (X : Buf (Elt F) (M.view.loc (c : Thread nD τ)))

/-- Slot `s` free: its semaphore at zero, the slot at anything. -/
def freeS (s : Fin 3) : sProp 𝕄 := iprop(cellP c A i s ∗ ∃ f, slotP c s B f)
/-- Slot `s` being filled with block `b`. -/
def inflS (s : Fin 3) (b : Fin 32) : sProp 𝕄 :=
  iprop(∃ f, Transfers.Flight countersEmb (c : Thread nD τ) (SemLoc.dma (sem A i s).sem) () 131072 iprop(slotP c s B (landed c s b B M X f) ∗ blkP c b M X))
/-- Before trip `k`: blocks `k` and `k + 1` in flight (while they exist), the other blocks home, one slot free. -/
def inRing (k : ℕ) : sProp 𝕄 :=
  iprop(bigSep (Ring.homeSet 2 k) (fun b : Fin 32 => blkP c b M X)
    ∗ Ring.roleAt (freeS c A i B (Ring.sl 3 k)) (inflS c A i B M X (Ring.sl 3 k)) k
    ∗ Ring.roleAt (freeS c A i B (Ring.sl 3 (k + 1))) (inflS c A i B M X (Ring.sl 3 (k + 1))) (k + 1)
    ∗ freeS c A i B (Ring.sl 3 (k + 2)))

/-- What trip `k` leaves alone when it starts a read, and when it does not. -/
def inRest (k : ℕ) : sProp 𝕄 :=
  iprop(bigSep ((Ring.homeSet 2 k).erase (Ring.bk 32 (k + 2))) (fun b : Fin 32 => blkP c b M X)
    ∗ Ring.roleAt (freeS c A i B (Ring.sl 3 (k + 1))) (inflS c A i B M X (Ring.sl 3 (k + 1))) (k + 1))
/-- The ring of reads late in the loop without the trip's own flight: no read is started any more. -/
def inRestTail (k : ℕ) : sProp 𝕄 :=
  iprop(bigSep (Ring.homeSet 2 k) (fun b : Fin 32 => blkP c b M X)
    ∗ Ring.roleAt (freeS c A i B (Ring.sl 3 (k + 1))) (inflS c A i B M X (Ring.sl 3 (k + 1))) (k + 1)
    ∗ freeS c A i B (Ring.sl 3 (k + 2)))

/-- Trip `k < 30` takes block `k + 2` and the free slot, and the flight of block `k`; -/
theorem inRing_open (k : ℕ) (h : k + 2 < 32) :
    inRing c A i B M X k ⊢ iprop(blkP c (Ring.bk 32 (k + 2)) M X ∗ inflS c A i B M X (Ring.sl 3 k) (Ring.bk 32 k)
      ∗ freeS c A i B (Ring.sl 3 (k + 2)) ∗ inRest c A i B M X k) := by
  unfold inRing inRest
  rw [Ring.roleAt_of_lt _ _ k (by omega), Ring.bigSep_take (show Ring.bk 32 (k + 2) ∈ Ring.homeSet 2 k by rw [Ring.mem_homeSet, Ring.bk_val h]; omega)]
  iintro ⟨⟨Hb, Hr⟩, Hf, Hr', Hs⟩
  isplitl [Hb]; · iexact Hb
  isplitl [Hf]; · iexact Hf
  isplitl [Hs]; · iexact Hs
  isplitl [Hr]; · iexact Hr
  iexact Hr'

/-- it gives back block `k`, that block's slot free, and block `k + 2` in flight. -/
theorem inRing_close (k : ℕ) (h : k + 2 < 32) :
    iprop(blkP c (Ring.bk 32 k) M X ∗ freeS c A i B (Ring.sl 3 k)
      ∗ inflS c A i B M X (Ring.sl 3 (k + 2)) (Ring.bk 32 (k + 2)) ∗ inRest c A i B M X k) ⊢ inRing c A i B M X (k + 1) := by
  unfold inRing inRest
  rw [Ring.roleAt_of_lt _ _ (k + 1 + 1) (by omega), Ring.sl_succ_add 3 k 2 rfl, Ring.homeSet_succ 2 k h, Ring.bigSep_put (Ring.bk_not_mem_erase 2 k (by omega) (by decide))]
  iintro ⟨Hb, Hs, Hf, Hr, Hr'⟩
  isplitl [Hb Hr]
  · isplitl [Hb]; · iexact Hb
    iexact Hr
  isplitl [Hr']; · iexact Hr'
  isplitl [Hf]; · iexact Hf
  iexact Hs

/-- A later trip takes the flight of block `k` alone, -/
theorem inRing_open_tail (k : ℕ) (hk : k < 32) :
    inRing c A i B M X k ⊢ iprop(inflS c A i B M X (Ring.sl 3 k) (Ring.bk 32 k) ∗ inRestTail c A i B M X k) := by
  unfold inRing inRestTail
  rw [Ring.roleAt_of_lt _ _ k hk]
  iintro ⟨Hh, Hf, Hr⟩
  isplitl [Hf]; · iexact Hf
  isplitl [Hh]; · iexact Hh
  iexact Hr

/-- and gives back the block and its slot. -/
theorem inRing_close_tail (k : ℕ) (h : 32 ≤ k + 2) (hk : k < 32) :
    iprop(blkP c (Ring.bk 32 k) M X ∗ freeS c A i B (Ring.sl 3 k) ∗ inRestTail c A i B M X k) ⊢ inRing c A i B M X (k + 1) := by
  unfold inRing inRestTail
  rw [Ring.roleAt_of_le _ _ (k + 1 + 1) (by omega), Ring.sl_succ_add 3 k 2 rfl, Ring.homeSet_succ_tail 2 k h hk, Ring.bigSep_put (Ring.bk_not_mem_homeSet 2 k hk (by decide))]
  iintro ⟨Hb, Hs, Hh, Hr', Hs'⟩
  isplitl [Hb Hh]
  · isplitl [Hb]; · iexact Hb
    iexact Hh
  isplitl [Hr']; · iexact Hr'
  isplitl [Hs']; · iexact Hs'
  iexact Hs

end ReadRing

/-! ## A write ring: the blocks of one result written back from three slots -/

section WriteRing
variable (c : Dev nD)
  (A : DmaSems sig S2x3) (i : Fin 2)
  (B : Memref sig .tc .vmem S3x1024x1024 .f32) (M : Memref sig .tc .hbm S32x1024x1024 .f32)
  (X : Buf (Elt F) (M.view.loc (c : Thread nD τ))) (d : Fin 32 → S1024x1024.Idx → Elt F .f32)

/-- Block `b` holding the elements `d b`. -/
def doneB (b : Fin 32) : sProp 𝕄 := (blk M b).view.loc (c : Thread nD τ) ↦[(blk M b).view.set]{fullShare} (blk M b).view.rep (d b)
/-- Slot `s` being written to block `b`, which will hold `d b`. -/
def inflB (s : Fin 3) (b : Fin 32) : sProp 𝕄 :=
  iprop(∃ f, Transfers.Flight countersEmb (c : Thread nD τ) (SemLoc.dma (sem A i s).sem) () 131072 iprop(doneB c M d b ∗ slotP c s B f))
/-- Before trip `k`: blocks `k, k + 1, …` as they were, blocks before `k - 3` written, the three between in flight. -/
def outRing (k : ℕ) : sProp 𝕄 :=
  iprop(bigSep (Ring.aheadSet k) (fun b : Fin 32 => blkP c b M X) ∗ bigSep (Ring.behindSet 3 k) (doneB c M d)
    ∗ Ring.roleBAt 3 (freeS c A i B (Ring.sl 3 k)) (inflB c A i B M d (Ring.sl 3 k)) k
    ∗ Ring.roleBAt 2 (freeS c A i B (Ring.sl 3 (k + 1))) (inflB c A i B M d (Ring.sl 3 (k + 1))) k
    ∗ Ring.roleBAt 1 (freeS c A i B (Ring.sl 3 (k + 2))) (inflB c A i B M d (Ring.sl 3 (k + 2))) k)
/-- What trip `k` leaves alone. -/
def outRest (k : ℕ) : sProp 𝕄 :=
  iprop(bigSep (Ring.aheadSet (k + 1)) (fun b : Fin 32 => blkP c b M X) ∗ bigSep (Ring.behindSet 3 k) (doneB c M d)
    ∗ Ring.roleBAt 2 (freeS c A i B (Ring.sl 3 (k + 1))) (inflB c A i B M d (Ring.sl 3 (k + 1))) k
    ∗ Ring.roleBAt 1 (freeS c A i B (Ring.sl 3 (k + 2))) (inflB c A i B M d (Ring.sl 3 (k + 2))) k)

/-- Trip `k` takes block `k` and its slot, whatever role the slot is in; -/
theorem outRing_open (k : ℕ) (hk : k < 32) :
    outRing c A i B M X d k ⊢ iprop(blkP c (Ring.bk 32 k) M X
      ∗ Ring.roleBAt 3 (freeS c A i B (Ring.sl 3 k)) (inflB c A i B M d (Ring.sl 3 k)) k ∗ outRest c A i B M X d k) := by
  unfold outRing outRest
  rw [Ring.aheadSet_open k hk, Ring.bigSep_put (Ring.bk_not_mem_aheadSet_succ k hk)]
  iintro ⟨⟨Hb, Ha⟩, Hd, Hr, Hr'⟩
  isplitl [Hb]; · iexact Hb
  isplitl [Hr]; · iexact Hr
  isplitl [Ha]; · iexact Ha
  isplitl [Hd]; · iexact Hd
  iexact Hr'

/-- The roles of the slots one trip on. -/
theorem outRest_next (k : ℕ) :
    iprop(inflB c A i B M d (Ring.sl 3 k) (Ring.bk 32 k) ∗ outRest c A i B M X d k)
      ⊢ iprop(bigSep (Ring.behindSet 3 k) (doneB c M d) ∗ bigSep (Ring.aheadSet (k + 1)) (fun b : Fin 32 => blkP c b M X)
        ∗ Ring.roleBAt 3 (freeS c A i B (Ring.sl 3 (k + 1))) (inflB c A i B M d (Ring.sl 3 (k + 1))) (k + 1)
        ∗ Ring.roleBAt 2 (freeS c A i B (Ring.sl 3 (k + 1 + 1))) (inflB c A i B M d (Ring.sl 3 (k + 1 + 1))) (k + 1)
        ∗ Ring.roleBAt 1 (freeS c A i B (Ring.sl 3 (k + 1 + 2))) (inflB c A i B M d (Ring.sl 3 (k + 1 + 2))) (k + 1)) := by
  have e3 : Ring.roleBAt 3 (freeS c A i B (Ring.sl 3 (k + 1))) (inflB c A i B M d (Ring.sl 3 (k + 1))) (k + 1)
      = Ring.roleBAt 2 (freeS c A i B (Ring.sl 3 (k + 1))) (inflB c A i B M d (Ring.sl 3 (k + 1))) k := by
    unfold Ring.roleBAt
    rw [show k + 1 - 3 = k - 2 by omega]
    exact if_congr (by omega) rfl rfl
  have e2 : Ring.roleBAt 2 (freeS c A i B (Ring.sl 3 (k + 1 + 1))) (inflB c A i B M d (Ring.sl 3 (k + 1 + 1))) (k + 1)
      = Ring.roleBAt 1 (freeS c A i B (Ring.sl 3 (k + 2))) (inflB c A i B M d (Ring.sl 3 (k + 2))) k := by
    unfold Ring.roleBAt
    rw [show k + 1 - 2 = k - 1 by omega]
    exact if_congr (by omega) rfl rfl
  have e1 : Ring.roleBAt 1 (freeS c A i B (Ring.sl 3 (k + 1 + 2))) (inflB c A i B M d (Ring.sl 3 (k + 1 + 2))) (k + 1)
      = inflB c A i B M d (Ring.sl 3 k) (Ring.bk 32 k) := by
    rw [Ring.roleBAt_of_le _ _ _ _ (by omega), Ring.sl_succ_add 3 k 2 rfl, Nat.add_sub_cancel]
  rw [e3, e2, e1]
  unfold outRest
  iintro ⟨Hf, Ha, Hd, H2, H1⟩
  isplitl [Hd]; · iexact Hd
  isplitl [Ha]; · iexact Ha
  isplitl [H2]; · iexact H2
  isplitl [H1]; · iexact H1
  iexact Hf

/-- it gives the slot back in flight with block `k`, beside block `k - 3` written (when that block exists). -/
theorem outRing_close (k : ℕ) (hk : k < 32) (h : 3 ≤ k) :
    iprop(doneB c M d (Ring.bk 32 (k - 3)) ∗ inflB c A i B M d (Ring.sl 3 k) (Ring.bk 32 k) ∗ outRest c A i B M X d k) ⊢ outRing c A i B M X d (k + 1) := by
  iintro ⟨Hd, H⟩
  ihave H' := (outRest_next c A i B M X d k) $$ H
  icases H' with ⟨Hd', Ha, Hr⟩
  unfold outRing
  rw [Ring.behindSet_close 3 k h hk, Ring.bigSep_put (Ring.bk_not_mem_behindSet 3 k h hk)]
  isplitl [Ha]; · iexact Ha
  isplitl [Hd Hd']
  · isplitl [Hd]; · iexact Hd
    iexact Hd'
  iexact Hr
/-- The first three trips have no write to wait for: they take a slot never written from. -/
theorem outRing_close_boot (k : ℕ) (h : k < 3) :
    iprop(inflB c A i B M d (Ring.sl 3 k) (Ring.bk 32 k) ∗ outRest c A i B M X d k) ⊢ outRing c A i B M X d (k + 1) := by
  iintro H
  ihave H' := (outRest_next c A i B M X d k) $$ H
  icases H' with ⟨Hd', Ha, Hr⟩
  unfold outRing
  rw [Ring.behindSet_boot 3 (k + 1) (by omega)]
  rw [Ring.behindSet_boot 3 k (by omega)]
  isplitl [Ha]; · iexact Ha
  isplitl [Hd']; · iexact Hd'
  iexact Hr

/-- A write just started, whose landing will leave `d b` in the block. -/
theorem inflB_of (s : Fin 3) (b : Fin 32) (g : Buf (Elt F) (M.view.loc (c : Thread nD τ))) (f : Buf (Elt F) (B.view.loc (c : Thread nD τ)))
    (h : (blk M b).view.read (Elt F) g = d b) :
    Transfers.Flight countersEmb (c : Thread nD τ) (SemLoc.dma (sem A i s).sem) () 131072 iprop(blkP c b M g ∗ slotP c s B f)
      ⊢ inflB c A i B M d s b := by
  have hd : iprop(blkP c b M g ∗ slotP c s B f) ⊢ iprop(doneB c M d b ∗ slotP c s B f) := by
    iintro ⟨Hb, Hs⟩
    isplitl [Hb]
    · unfold doneB
      iapply (pointsTo_rep_of_read (c : Thread nD τ) (blk M b) g fullShare (d b) h) $$ Hb
    iexact Hs
  unfold inflB
  iintro H
  iexists f
  iapply (Transfers.Flight_mono countersEmb (c : Thread nD τ) hd) $$ H

end WriteRing

end Cert.Proof.KernelIdeal

end
-- ==== Proof.KernelIdeal.Trip.lean ====
module

public import proofs.«01_k».proof.Proof.KernelIdeal.Pieces

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ
section Trip
variable (c : Dev nD)
  (arg0 : Memref sig .tc .vmem S65x96 .f32) (harg0 : arg0.IsWhole)
  (arg5 : Memref sig .tc .vmem S1024x32 .f32) (harg5 : arg5.IsWhole)
  (XK : Buf (Elt F) (ktM.view.loc (c : Thread nD τ))) (XV : Buf (Elt F) (vtM.view.loc (c : Thread nD τ)))
  (XO : Buf (Elt F) (koM.view.loc (c : Thread nD τ))) (XP : Buf (Elt F) (voM.view.loc (c : Thread nD τ)))
  (T : Buf (Elt F) (ttM.view.loc (c : Thread nD τ)))

/-- The table of rows, held at `T`; and what a load of it reads. -/
abbrev ttP : sProp 𝕄 := ttM.view.loc (c : Thread nD τ) ↦[ttM.view.set]{fullShare} T
/-- The row table as a trip loads it. -/
abbrev ttLoad : Vec F S1024x96 .f32 :=
  ttM.view.readAt (Elt F) (Rect.unit (s := S1024x96) ![0, 0] S1024x96.size inb_S1024x96_S1024x96_0_0).toLoadRect T

/-- What trip `b` computes for block `b` of the first result and of the second, from the row table `r`. -/
def outK (r : Vec F S1024x96 .f32) (b : Fin 32) : S1024x1024.Idx → Elt F .f32 :=
  fun y => k0_pay3 r (k0_pay1 0#32 1#32 (Fin.cast trips_eq.symm b)) (constant S1024x2 .f32 0#32) (fun z => blkData c b ktM XK (flat z)) (box y)
/-- The same for the second array. -/
def outV (r : Vec F S1024x96 .f32) (b : Fin 32) : S1024x1024.Idx → Elt F .f32 :=
  fun y => k0_pay4 r (k0_pay1 0#32 1#32 (Fin.cast trips_eq.symm b)) (constant S1024x2 .f32 0#32) (fun z => blkData c b vtM XV (flat z)) (box y)

/-- A trip's own block has the trip's number. -/
theorem cast_bk (k : Fin k0_t1_loop.trips) : Fin.cast trips_eq.symm (Ring.bk 32 k.val) = k :=
  Fin.ext (Ring.bk_val (NB := 32) (trip_lt k))

/-- The block a trip writes back reads what the trip computes. -/
theorem read_outK (k : Fin k0_t1_loop.trips) (r : Vec F S1024x96 .f32) (fk : Buf (Elt F) (kbM.view.loc (c : Thread nD τ)))
    (fo : Buf (Elt F) (kobM.view.loc (c : Thread nD τ))) (inb inb') :
    (blk koM (Ring.bk 32 k.val)).view.read (Elt F) ((blk koM (Ring.bk 32 k.val)).view.writes (Elt F) XO
      [⟨Rect.whole S1024x1024, ReadAs.same.apply ((slot kobM (Ring.sl 3 k.val)).view.read (Elt F)
        ((kobM.access (Rect.unit (s := S3x1024x1024) (k0_off13 k) S1x1024x1024.size inb)).write (Elt F) fo
          (k0_pay3 r (k0_pay1 0#32 1#32 k) (constant S1024x2 .f32 0#32)
            (kbM.view.readAt (Elt F) (Rect.unit (s := S3x1024x1024) (k0_off13 k) S1x1024x1024.size inb').toLoadRect
              (landed c (Ring.sl 3 k.val) (Ring.bk 32 k.val) kbM ktM XK fk))) Finset.univ))⟩])
      = outK c XK r (Ring.bk 32 k.val) := by
  refine (View.read_writes_whole _ _ _).trans ((read_slot_store c kobM (off13_eq k) inb fo _).trans ?_)
  have e := (load_slot c kbM (off13_eq k) inb' (landed c (Ring.sl 3 k.val) (Ring.bk 32 k.val) kbM ktM XK fk)).trans
    (funext fun z => congrFun (View.read_writes_whole _ _ (blkData c (Ring.bk 32 k.val) ktM XK)) (flat z))
  rw [e]
  unfold outK
  rw [cast_bk]
/-- The same for the second array. -/
theorem read_outV (k : Fin k0_t1_loop.trips) (r : Vec F S1024x96 .f32) (fv : Buf (Elt F) (vbM.view.loc (c : Thread nD τ)))
    (fp : Buf (Elt F) (vobM.view.loc (c : Thread nD τ))) (inb inb') :
    (blk voM (Ring.bk 32 k.val)).view.read (Elt F) ((blk voM (Ring.bk 32 k.val)).view.writes (Elt F) XP
      [⟨Rect.whole S1024x1024, ReadAs.same.apply ((slot vobM (Ring.sl 3 k.val)).view.read (Elt F)
        ((vobM.access (Rect.unit (s := S3x1024x1024) (k0_off13 k) S1x1024x1024.size inb)).write (Elt F) fp
          (k0_pay4 r (k0_pay1 0#32 1#32 k) (constant S1024x2 .f32 0#32)
            (vbM.view.readAt (Elt F) (Rect.unit (s := S3x1024x1024) (k0_off13 k) S1x1024x1024.size inb').toLoadRect
              (landed c (Ring.sl 3 k.val) (Ring.bk 32 k.val) vbM vtM XV fv))) Finset.univ))⟩])
      = outV c XV r (Ring.bk 32 k.val) := by
  refine (View.read_writes_whole _ _ _).trans ((read_slot_store c vobM (off13_eq k) inb fp _).trans ?_)
  have e := (load_slot c vbM (off13_eq k) inb' (landed c (Ring.sl 3 k.val) (Ring.bk 32 k.val) vbM vtM XV fv)).trans
    (funext fun z => congrFun (View.read_writes_whole _ _ (blkData c (Ring.bk 32 k.val) vtM XV)) (flat z))
  rw [e]
  unfold outV
  rw [cast_bk]

/-- The kernel's trip at the buffers of the launch. -/
abbrev tripG (k : Fin k0_t1_loop.trips) : Prog (TpuEff nD τ sig (Elt F) Λ₀ .tc) Unit :=
  k0_t1_body (F := F) arg0 harg0 ktM (Memref.isWhole_whole _) vtM (Memref.isWhole_whole _) koM (Memref.isWhole_whole _) voM (Memref.isWhole_whole _) arg5 harg5 kbM (Memref.isWhole_whole _) vbM (Memref.isWhole_whole _) kobM (Memref.isWhole_whole _) vobM (Memref.isWhole_whole _) ttM (Memref.isWhole_whole _) cc0_scratch5 cc0_scratch6 k ()

/-- Before trip `k`: the row table, and the four rings. -/
def tripInv (k : ℕ) : sProp 𝕄 :=
  iprop(ttP c T ∗ (∃ W, owes (c : Thread nD τ) 0 W)
    ∗ inRing c cc0_scratch5 0 kbM ktM XK k ∗ inRing c cc0_scratch5 1 vbM vtM XV k
    ∗ outRing c cc0_scratch6 0 kobM koM XO (outK c XK (ttLoad c T)) k ∗ outRing c cc0_scratch6 1 vobM voM XP (outV c XV (ttLoad c T)) k)

/-- A trip that starts reads and waits for writes. -/
theorem trip_mid (k : Fin k0_t1_loop.trips) (h1 : k.val + 2 < 32) (h2 : 3 ≤ k.val) :
    tripInv c XK XV XO XP T k.val
      ⊢ wp Idealize.ShloMosaic.frame (wpE (defs₀ (F := F)) 𝒱₀ (c : Thread nD τ) none) Set.univ (tripG arg0 harg0 arg5 harg5 k)
        (fun _ => tripInv c XK XV XO XP T (k.val + 1)) := by
  have hc1 := (cond1_iff k).2 h1
  have hc2 := (cond2_iff k).2 h2
  unfold tripInv
  iintro ⟨HT, ⟨%W, HW⟩, HRk, HRv, HWk, HWv⟩
  ihave HRk := (inRing_open c cc0_scratch5 0 kbM ktM XK k.val h1) $$ HRk
  ihave HRv := (inRing_open c cc0_scratch5 1 vbM vtM XV k.val h1) $$ HRv
  ihave HWk := (outRing_open c cc0_scratch6 0 kobM koM XO (outK c XK (ttLoad c T)) k.val (trip_lt k)) $$ HWk
  ihave HWv := (outRing_open c cc0_scratch6 1 vobM voM XP (outV c XV (ttLoad c T)) k.val (trip_lt k)) $$ HWv
  rw [Ring.roleBAt_of_le _ _ _ _ h2, Ring.roleBAt_of_le _ _ _ _ h2]
  unfold inflS freeS inflB
  icases HRk with ⟨HbK, ⟨%fk, HfK⟩, ⟨HcK2, %fk2, HsK2⟩, HrK⟩
  icases HRv with ⟨HbV, ⟨%fv, HfV⟩, ⟨HcV2, %fv2, HsV2⟩, HrV⟩
  icases HWk with ⟨HbO, ⟨%fo, HfO⟩, HrO⟩
  icases HWv with ⟨HbP, ⟨%fp, HfP⟩, HrP⟩
  dsimp only [tripG]; sl_unfold [k0_t1_body]; sl_exec
  sl_step
  isplitl [HT]; · iexact HT
  isplitl [HW]; · iexists _; iexact HW
  isplitl [HfK_src HfK_dst HfK HcK2 HrK]
  · iapply (inRing_close c cc0_scratch5 0 kbM ktM XK k.val h1)
    unfold freeS inflS
    isplitl [HfK_src]; · iexact HfK_src
    isplitl [HfK_dst HfK]
    · isplitl [HfK]; · iexact HfK
      iexists _; iexact HfK_dst
    isplitl [HcK2]
    · iexists _; iexact HcK2
    iexact HrK
  isplitl [HfV_src HfV_dst HfV HcV2 HrV]
  · iapply (inRing_close c cc0_scratch5 1 vbM vtM XV k.val h1)
    unfold freeS inflS
    isplitl [HfV_src]; · iexact HfV_src
    isplitl [HfV_dst HfV]
    · isplitl [HfV]; · iexact HfV
      iexists _; iexact HfV_dst
    isplitl [HcV2]
    · iexists _; iexact HcV2
    iexact HrV
  isplitl [HfO_dst HfO HrO]
  · iapply (outRing_close c cc0_scratch6 0 kobM koM XO (outK c XK (ttLoad c T)) k.val (trip_lt k) h2)
    isplitl [HfO_dst]; · iexact HfO_dst
    isplitl [HfO]
    · iapply (inflB_of c cc0_scratch6 0 kobM koM (outK c XK (ttLoad c T)) (Ring.sl 3 k.val) (Ring.bk 32 k.val) ((blk koM (Ring.bk 32 k.val)).view.writes (Elt F) XO [⟨Rect.whole S1024x1024, trip_mid.sl.dma7 c XK T k fo⟩]) _ (read_outK c XK XO k (ttLoad c T) ((slot kbM (Ring.sl 3 k.val)).view.junk) fo (k0_off13_inb k) (k0_off13_inb k))) $$ HfO
    iexact HrO
  iapply (outRing_close c cc0_scratch6 1 vobM voM XP (outV c XV (ttLoad c T)) k.val (trip_lt k) h2)
  isplitl [HfP_dst]; · iexact HfP_dst
  isplitl [HfP]
  · iapply (inflB_of c cc0_scratch6 1 vobM voM (outV c XV (ttLoad c T)) (Ring.sl 3 k.val) (Ring.bk 32 k.val) ((blk voM (Ring.bk 32 k.val)).view.writes (Elt F) XP [⟨Rect.whole S1024x1024, trip_mid.sl.dma7_1 c XV T k fp⟩]) _ (read_outV c XV XP k (ttLoad c T) ((slot vbM (Ring.sl 3 k.val)).view.junk) fp (k0_off13_inb k) (k0_off13_inb k))) $$ HfP
  iexact HrP

/-- A trip that starts reads and finds its write slots free. -/
theorem trip_boot (k : Fin k0_t1_loop.trips) (h1 : k.val + 2 < 32) (h2 : k.val < 3) :
    tripInv c XK XV XO XP T k.val
      ⊢ wp Idealize.ShloMosaic.frame (wpE (defs₀ (F := F)) 𝒱₀ (c : Thread nD τ) none) Set.univ (tripG arg0 harg0 arg5 harg5 k)
        (fun _ => tripInv c XK XV XO XP T (k.val + 1)) := by
  have hc1 := (cond1_iff k).2 h1
  have hc2 : ¬ k0_cond2 k = 1#1 := fun e => absurd ((cond2_iff k).1 e) (by omega)
  unfold tripInv
  iintro ⟨HT, ⟨%W, HW⟩, HRk, HRv, HWk, HWv⟩
  ihave HRk := (inRing_open c cc0_scratch5 0 kbM ktM XK k.val h1) $$ HRk
  ihave HRv := (inRing_open c cc0_scratch5 1 vbM vtM XV k.val h1) $$ HRv
  ihave HWk := (outRing_open c cc0_scratch6 0 kobM koM XO (outK c XK (ttLoad c T)) k.val (trip_lt k)) $$ HWk
  ihave HWv := (outRing_open c cc0_scratch6 1 vobM voM XP (outV c XV (ttLoad c T)) k.val (trip_lt k)) $$ HWv
  rw [Ring.roleBAt_of_lt _ _ _ _ h2, Ring.roleBAt_of_lt _ _ _ _ h2]
  unfold inflS freeS
  icases HRk with ⟨HbK, ⟨%fk, HfK⟩, ⟨HcK2, %fk2, HsK2⟩, HrK⟩
  icases HRv with ⟨HbV, ⟨%fv, HfV⟩, ⟨HcV2, %fv2, HsV2⟩, HrV⟩
  icases HWk with ⟨HbO, ⟨HcO, %fo, HsO⟩, HrO⟩
  icases HWv with ⟨HbP, ⟨HcP, %fp, HsP⟩, HrP⟩
  dsimp only [tripG]; sl_unfold [k0_t1_body]; sl_exec
  sl_step
  isplitl [HT]; · iexact HT
  isplitl [HW]; · iexists _; iexact HW
  isplitl [HfK_src HfK_dst HfK HcK2 HrK]
  · iapply (inRing_close c cc0_scratch5 0 kbM ktM XK k.val h1)
    unfold freeS inflS
    isplitl [HfK_src]; · iexact HfK_src
    isplitl [HfK_dst HfK]
    · isplitl [HfK]; · iexact HfK
      iexists _; iexact HfK_dst
    isplitl [HcK2]
    · iexists _; iexact HcK2
    iexact HrK
  isplitl [HfV_src HfV_dst HfV HcV2 HrV]
  · iapply (inRing_close c cc0_scratch5 1 vbM vtM XV k.val h1)
    unfold freeS inflS
    isplitl [HfV_src]; · iexact HfV_src
    isplitl [HfV_dst HfV]
    · isplitl [HfV]; · iexact HfV
      iexists _; iexact HfV_dst
    isplitl [HcV2]
    · iexists _; iexact HcV2
    iexact HrV
  isplitl [HcO HrO]
  · iapply (outRing_close_boot c cc0_scratch6 0 kobM koM XO (outK c XK (ttLoad c T)) k.val h2)
    isplitl [HcO]
    · iapply (inflB_of c cc0_scratch6 0 kobM koM (outK c XK (ttLoad c T)) (Ring.sl 3 k.val) (Ring.bk 32 k.val) ((blk koM (Ring.bk 32 k.val)).view.writes (Elt F) XO [⟨Rect.whole S1024x1024, trip_boot.sl.dma7 c XK T k fo⟩]) _ (read_outK c XK XO k (ttLoad c T) ((slot kbM (Ring.sl 3 k.val)).view.junk) fo (k0_off13_inb k) (k0_off13_inb k))) $$ HcO
    iexact HrO
  iapply (outRing_close_boot c cc0_scratch6 1 vobM voM XP (outV c XV (ttLoad c T)) k.val h2)
  isplitl [HcP]
  · iapply (inflB_of c cc0_scratch6 1 vobM voM (outV c XV (ttLoad c T)) (Ring.sl 3 k.val) (Ring.bk 32 k.val) ((blk voM (Ring.bk 32 k.val)).view.writes (Elt F) XP [⟨Rect.whole S1024x1024, trip_boot.sl.dma7_1 c XV T k fp⟩]) _ (read_outV c XV XP k (ttLoad c T) ((slot vbM (Ring.sl 3 k.val)).view.junk) fp (k0_off13_inb k) (k0_off13_inb k))) $$ HcP
  iexact HrP

/-- A trip that starts no reads and waits for writes. -/
theorem trip_tail (k : Fin k0_t1_loop.trips) (h1 : 32 ≤ k.val + 2) (h2 : 3 ≤ k.val) :
    tripInv c XK XV XO XP T k.val
      ⊢ wp Idealize.ShloMosaic.frame (wpE (defs₀ (F := F)) 𝒱₀ (c : Thread nD τ) none) Set.univ (tripG arg0 harg0 arg5 harg5 k)
        (fun _ => tripInv c XK XV XO XP T (k.val + 1)) := by
  have hc1 : ¬ k0_cond1 k = 1#1 := fun e => absurd ((cond1_iff k).1 e) (by omega)
  have hc2 := (cond2_iff k).2 h2
  unfold tripInv
  iintro ⟨HT, ⟨%W, HW⟩, HRk, HRv, HWk, HWv⟩
  ihave HRk := (inRing_open_tail c cc0_scratch5 0 kbM ktM XK k.val (trip_lt k)) $$ HRk
  ihave HRv := (inRing_open_tail c cc0_scratch5 1 vbM vtM XV k.val (trip_lt k)) $$ HRv
  ihave HWk := (outRing_open c cc0_scratch6 0 kobM koM XO (outK c XK (ttLoad c T)) k.val (trip_lt k)) $$ HWk
  ihave HWv := (outRing_open c cc0_scratch6 1 vobM voM XP (outV c XV (ttLoad c T)) k.val (trip_lt k)) $$ HWv
  rw [Ring.roleBAt_of_le _ _ _ _ h2, Ring.roleBAt_of_le _ _ _ _ h2]
  unfold inflS inflB
  icases HRk with ⟨⟨%fk, HfK⟩, HrK⟩
  icases HRv with ⟨⟨%fv, HfV⟩, HrV⟩
  icases HWk with ⟨HbO, ⟨%fo, HfO⟩, HrO⟩
  icases HWv with ⟨HbP, ⟨%fp, HfP⟩, HrP⟩
  dsimp only [tripG]; sl_unfold [k0_t1_body]; sl_exec
  sl_step
  isplitl [HT]; · iexact HT
  isplitl [HW]; · iexists _; iexact HW
  isplitl [HfK_src HfK_dst HfK HrK]
  · iapply (inRing_close_tail c cc0_scratch5 0 kbM ktM XK k.val h1 (trip_lt k))
    unfold freeS
    isplitl [HfK_src]; · iexact HfK_src
    isplitl [HfK_dst HfK]
    · isplitl [HfK]; · iexact HfK
      iexists _; iexact HfK_dst
    iexact HrK
  isplitl [HfV_src HfV_dst HfV HrV]
  · iapply (inRing_close_tail c cc0_scratch5 1 vbM vtM XV k.val h1 (trip_lt k))
    unfold freeS
    isplitl [HfV_src]; · iexact HfV_src
    isplitl [HfV_dst HfV]
    · isplitl [HfV]; · iexact HfV
      iexists _; iexact HfV_dst
    iexact HrV
  isplitl [HfO_dst HfO HrO]
  · iapply (outRing_close c cc0_scratch6 0 kobM koM XO (outK c XK (ttLoad c T)) k.val (trip_lt k) h2)
    isplitl [HfO_dst]; · iexact HfO_dst
    isplitl [HfO]
    · iapply (inflB_of c cc0_scratch6 0 kobM koM (outK c XK (ttLoad c T)) (Ring.sl 3 k.val) (Ring.bk 32 k.val) ((blk koM (Ring.bk 32 k.val)).view.writes (Elt F) XO [⟨Rect.whole S1024x1024, trip_tail.sl.dma7 c XK T k fo⟩]) _ (read_outK c XK XO k (ttLoad c T) ((slot kbM (Ring.sl 3 k.val)).view.junk) fo (k0_off13_inb k) (k0_off13_inb k))) $$ HfO
    iexact HrO
  iapply (outRing_close c cc0_scratch6 1 vobM voM XP (outV c XV (ttLoad c T)) k.val (trip_lt k) h2)
  isplitl [HfP_dst]; · iexact HfP_dst
  isplitl [HfP]
  · iapply (inflB_of c cc0_scratch6 1 vobM voM (outV c XV (ttLoad c T)) (Ring.sl 3 k.val) (Ring.bk 32 k.val) ((blk voM (Ring.bk 32 k.val)).view.writes (Elt F) XP [⟨Rect.whole S1024x1024, trip_tail.sl.dma7_1 c XV T k fp⟩]) _ (read_outV c XV XP k (ttLoad c T) ((slot vbM (Ring.sl 3 k.val)).view.junk) fp (k0_off13_inb k) (k0_off13_inb k))) $$ HfP
  iexact HrP

set_option maxHeartbeats 1000000 in
/-- Every trip. -/
theorem trip (k : Fin k0_t1_loop.trips) :
    tripInv c XK XV XO XP T k.val
      ⊢ wp Idealize.ShloMosaic.frame (wpE (defs₀ (F := F)) 𝒱₀ (c : Thread nD τ) none) Set.univ (tripG arg0 harg0 arg5 harg5 k)
        (fun _ => tripInv c XK XV XO XP T (k.val + 1)) := by
  rcases Nat.lt_or_ge (k.val + 2) 32 with h1 | h1
  · rcases Nat.lt_or_ge k.val 3 with h2 | h2
    · exact trip_boot c arg0 harg0 arg5 harg5 XK XV XO XP T k h1 h2
    · exact trip_mid c arg0 harg0 arg5 harg5 XK XV XO XP T k h1 h2
  · have h2 : 3 ≤ k.val := Nat.le_trans (by decide) (Nat.le_of_add_le_add_right (a := 30) (b := 2) h1)
    exact trip_tail c arg0 harg0 arg5 harg5 XK XV XO XP T k h1 h2

end Trip
end Cert.Proof.KernelIdeal

end
-- ==== Proof.KernelIdeal.Body.lean ====
module

public import proofs.«01_k».proof.Proof.KernelIdeal.Trip

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ
/-! ## Entering and leaving the rings -/

theorem sl3_0 : Ring.sl 3 0 = 0 := Fin.ext (by rfl)
/-- Number 1 falls on slot 1. -/
theorem sl3_1 : Ring.sl 3 (0 + 1) = 1 := Fin.ext (by rfl)
/-- Number 2 falls on slot 2. -/
theorem sl3_2 : Ring.sl 3 (0 + 2) = 2 := Fin.ext (by rfl)
/-- Number 32 falls on slot 2. -/
theorem sl3_32 : Ring.sl 3 32 = 2 := Fin.ext (by rfl)
/-- Number 33 falls on slot 0. -/
theorem sl3_33 : Ring.sl 3 (32 + 1) = 0 := Fin.ext (by rfl)
/-- Number 34 falls on slot 1. -/
theorem sl3_34 : Ring.sl 3 (32 + 2) = 1 := Fin.ext (by rfl)
/-- Number 0 is block 0. -/
theorem bk32_0 : Ring.bk 32 0 = 0 := Fin.ext (by rfl)
/-- Number 1 is block 1. -/
theorem bk32_1 : Ring.bk 32 (0 + 1) = 1 := Fin.ext (by rfl)
/-- Three before the end is block 29. -/
theorem bk32_29 : Ring.bk 32 (32 - 3) = 29 := Fin.ext (by rfl)
/-- Two before the end is block 30. -/
theorem bk32_30 : Ring.bk 32 (32 - 2) = 30 := Fin.ext (by rfl)
/-- One before the end is block 31. -/
theorem bk32_31 : Ring.bk 32 (32 - 1) = 31 := Fin.ext (by rfl)

section Ends
variable (c : Dev nD) (A : DmaSems sig S2x3) (i : Fin 2)
  (B : Memref sig .tc .vmem S3x1024x1024 .f32) (M : Memref sig .tc .hbm S32x1024x1024 .f32)
  (X : Buf (Elt F) (M.view.loc (c : Thread nD τ))) (d : Fin 32 → S1024x1024.Idx → Elt F .f32)

/-- The three slots of a ring free. -/
abbrev freeAll : sProp 𝕄 := iprop(freeS c A i B 0 ∗ freeS c A i B 1 ∗ freeS c A i B 2)

/-- Blocks 0 and 1 in flight into slots 0 and 1, the others home: the read ring before trip 0. -/
theorem inRing_enter :
    iprop(bigSep (Ring.homeSet 2 0) (fun b : Fin 32 => blkP c b M X) ∗ inflS c A i B M X 0 0 ∗ inflS c A i B M X 1 1 ∗ freeS c A i B 2)
      ⊢ inRing c A i B M X 0 := by
  unfold inRing
  rw [Ring.roleAt_of_lt _ _ 0 (by decide), Ring.roleAt_of_lt _ _ (0 + 1) (by decide), sl3_0, sl3_1, sl3_2, bk32_0, bk32_1]

/-- The read ring after the last trip: every block home, every slot free. -/
theorem inRing_leave : inRing c A i B M X 32 ⊢ iprop(bigSep Finset.univ (fun b : Fin 32 => blkP c b M X) ∗ freeAll c A i B) := by
  unfold inRing
  have e : Ring.homeSet (NB := 32) 2 32 = Finset.univ := by decide +kernel
  rw [Ring.roleAt_of_le _ _ 32 (by decide), Ring.roleAt_of_le _ _ (32 + 1) (by decide), sl3_32, sl3_33, sl3_34, e]
  iintro ⟨Hb, H2, H0, H1⟩
  isplitl [Hb]; · iexact Hb
  isplitl [H0]; · iexact H0
  isplitl [H1]; · iexact H1
  iexact H2

/-- Every block as it was and every slot free: the write ring before trip 0. -/
theorem outRing_enter : iprop(bigSep Finset.univ (fun b : Fin 32 => blkP c b M X) ∗ freeAll c A i B) ⊢ outRing c A i B M X d 0 := by
  unfold outRing
  have e1 : Ring.aheadSet (NB := 32) 0 = Finset.univ := by decide +kernel
  have e2 : Ring.behindSet (NB := 32) 3 0 = ∅ := by decide +kernel
  rw [Ring.roleBAt_of_lt _ _ _ _ (by decide), Ring.roleBAt_of_lt _ _ _ _ (by decide), Ring.roleBAt_of_lt _ _ _ _ (by decide), sl3_0, sl3_1, sl3_2, e1, e2, bigSep_empty]
  iintro ⟨Hb, H0, H1, H2⟩
  isplitl [Hb]; · iexact Hb
  isplitr; · iempintro
  isplitl [H0]; · iexact H0
  isplitl [H1]; · iexact H1
  iexact H2

/-- The write ring after the last trip: the last three blocks in flight, the others written. -/
theorem outRing_leave : outRing c A i B M X d 32 ⊢ iprop(bigSep (Ring.behindSet 3 32) (doneB c M d)
    ∗ inflB c A i B M d 2 29 ∗ inflB c A i B M d 0 30 ∗ inflB c A i B M d 1 31) := by
  unfold outRing
  rw [Ring.roleBAt_of_le _ _ _ _ (by decide), Ring.roleBAt_of_le _ _ _ _ (by decide), Ring.roleBAt_of_le _ _ _ _ (by decide), sl3_32, sl3_33, sl3_34, bk32_29, bk32_30, bk32_31]
  iintro ⟨-, Hb, H0, H1, H2⟩
  isplitl [Hb]; · iexact Hb
  isplitl [H0]; · iexact H0
  isplitl [H1]; · iexact H1
  iexact H2

/-- Those three landed, every block is written. -/
theorem done_all : iprop(doneB c M d 29 ∗ doneB c M d 30 ∗ doneB c M d 31 ∗ bigSep (Ring.behindSet 3 32) (doneB c M d))
    ⊢ bigSep Finset.univ (doneB c M d) := by
  have e : (Finset.univ : Finset (Fin 32)) = insert 29 (insert 30 (insert 31 (Ring.behindSet 3 32))) := by decide +kernel
  rw [e, bigSep_insert (by decide +kernel), bigSep_insert (by decide +kernel), bigSep_insert (by decide +kernel)]
  exact .rfl

/-- The first two blocks apart from the others. -/
theorem homes_split : bigSep Finset.univ (fun b : Fin 32 => blkP c b M X)
    ⊢ iprop(blkP c 0 M X ∗ blkP c 1 M X ∗ bigSep (Ring.homeSet 2 0) (fun b : Fin 32 => blkP c b M X)) := by
  have e : (Finset.univ : Finset (Fin 32)) = insert 0 (insert 1 (Ring.homeSet 2 0)) := by decide +kernel
  rw [e, bigSep_insert (by decide +kernel), bigSep_insert (by decide +kernel)]
  exact .rfl

end Ends

/-! ## The kernel body -/

section Body
variable (c : Dev nD)
  (arg0 : Memref sig .tc .vmem S65x96 .f32) (harg0 : arg0.IsWhole)
  (arg5 : Memref sig .tc .vmem S1024x32 .f32) (harg5 : arg5.IsWhole)
  (XK : Buf (Elt F) (ktM.view.loc (c : Thread nD τ))) (XV : Buf (Elt F) (vtM.view.loc (c : Thread nD τ)))
  (XO : Buf (Elt F) (koM.view.loc (c : Thread nD τ))) (XP : Buf (Elt F) (voM.view.loc (c : Thread nD τ)))

/-- The body on the given staging memrefs, the arrays, buffers and semaphores the launch's own. -/
abbrev bodyG : Prog (TpuEff nD τ sig (Elt F) Λ₀ .tc) PUnit :=
  cc0__stream_fn arg0 harg0 ktM (Memref.isWhole_whole _) vtM (Memref.isWhole_whole _) koM (Memref.isWhole_whole _) voM (Memref.isWhole_whole _) arg5 harg5 kbM (Memref.isWhole_whole _) vbM (Memref.isWhole_whole _) kobM (Memref.isWhole_whole _) vobM (Memref.isWhole_whole _) ttM (Memref.isWhole_whole _) cc0_scratch5 cc0_scratch6

/-- The staged tables, held whole. -/
abbrev inP (g0 : Buf (Elt F) (arg0.view.loc (c : Thread nD τ))) : sProp 𝕄 := arg0.view.loc (c : Thread nD τ) ↦[arg0.view.set]{fullShare} g0
/-- The staged bias, held whole. -/
abbrev biasP (g5 : Buf (Elt F) (arg5.view.loc (c : Thread nD τ))) : sProp 𝕄 := arg5.view.loc (c : Thread nD τ) ↦[arg5.view.set]{fullShare} g5

set_option maxHeartbeats 2000000 in
set_option warn.classDefReducibility false in
/-- The loop's invariant: the row table and the rings. -/
def loopInv (T : Buf (Elt F) (ttM.view.loc (c : Thread nD τ))) :
    LoopInvTy_k0_t1 (F := F) Unit ℕ (UU nD τ) ℕ 𝒱₀ c none Set.univ arg0 harg0 ktM (Memref.isWhole_whole _) vtM (Memref.isWhole_whole _) koM (Memref.isWhole_whole _) voM (Memref.isWhole_whole _) arg5 harg5 kbM (Memref.isWhole_whole _) vbM (Memref.isWhole_whole _) kobM (Memref.isWhole_whole _) vobM (Memref.isWhole_whole _) ttM (Memref.isWhole_whole _) cc0_scratch5 cc0_scratch6 where
  inv k _ := tripInv c XK XV XO XP T k
  step k _ := trip c arg0 harg0 arg5 harg5 XK XV XO XP T k

/-- What is held before the loop is the invariant at trip 0. -/
theorem loop_enter (T : Buf (Elt F) (ttM.view.loc (c : Thread nD τ))) :
    tripInv c XK XV XO XP T 0 ⊢ (loopInv c arg0 harg0 arg5 harg5 XK XV XO XP T).inv 0 () := .rfl
/-- The invariant after the last trip gives back what is held after the loop. -/
theorem loop_leave (T : Buf (Elt F) (ttM.view.loc (c : Thread nD τ))) (u : Unit) :
    (loopInv c arg0 harg0 arg5 harg5 XK XV XO XP T).inv (Scf.trips k0_t1_loop.lb k0_t1_loop.ub k0_t1_loop.st) u ⊢ tripInv c XK XV XO XP T 32 := by
  have e : Scf.trips k0_t1_loop.lb k0_t1_loop.ub k0_t1_loop.st = 32 := trips_eq
  rw [e]; exact .rfl

/-- The row table and the bias the body computes from the table block. -/
def ttOf (X0 : Vec F S65x96 .f32) : Vec F S1024x96 .f32 := k0_pay7 (iota .tc S1024x65 32 [1] iota_S1024x65_d1_w32) 32#32 k0_pay5 X0
/-- The bias block that the body stores, from the tables it reads. -/
def biasOf (X0 : Vec F S65x96 .f32) : Vec F S1024x32 .f32 := k0_pay8 (iota .tc S1024x65 32 [1] iota_S1024x65_d1_w32) 32#32 k0_pay5 X0

/-- What the body is handed and gives back beside its two staging buffers and its waits: the row table's buffer, the two
    operands' blocks, the slots. -/
abbrev ownP : sProp 𝕄 :=
  iprop((∃ T, ttP c T) ∗ bigSep Finset.univ (fun b : Fin 32 => blkP c b ktM XK) ∗ bigSep Finset.univ (fun b : Fin 32 => blkP c b vtM XV)
    ∗ freeAll c cc0_scratch5 0 kbM ∗ freeAll c cc0_scratch5 1 vbM ∗ freeAll c cc0_scratch6 0 kobM ∗ freeAll c cc0_scratch6 1 vobM)

/-- The body, run: the bias in its staging buffer, every block of the two results written. -/
theorem bodyRun (X0 : Vec F S65x96 .f32) (g5 : Buf (Elt F) (arg5.view.loc (c : Thread nD τ))) (W Q) :
    iprop((inP c arg0 (arg0.view.rep X0) ∗ biasP c arg5 g5 ∗ owes (c : Thread nD τ) 0 W ∗ ownP c XK XV
        ∗ bigSep Finset.univ (fun b : Fin 32 => blkP c b koM XO) ∗ bigSep Finset.univ (fun b : Fin 32 => blkP c b voM XP))
      ∗ ((inP c arg0 (arg0.view.rep X0) ∗ biasP c arg5 (arg5.view.rep (biasOf X0)) ∗ (∃ W, owes (c : Thread nD τ) 0 W) ∗ ownP c XK XV
        ∗ bigSep Finset.univ (doneB c koM (outK c XK (ttOf X0))) ∗ bigSep Finset.univ (doneB c voM (outV c XV (ttOf X0)))) -∗ Q ⟨⟩))
      ⊢ wp Idealize.ShloMosaic.frame (wpE (defs₀ (F := F)) 𝒱₀ (c : Thread nD τ) none) Set.univ (bodyG arg0 harg0 arg5 harg5) Q := by
  iintro ⟨⟨Hin, Hb, HW, ⟨⟨%T0, HT⟩, Hk, Hv, ⟨Fk0, Fk1, Fk2⟩, ⟨Fv0, Fv1, Fv2⟩, FO, FP⟩, HO, HP⟩, HQ⟩
  ihave Hk := (homes_split c ktM XK) $$ Hk
  ihave Hv := (homes_split c vtM XV) $$ Hv
  icases Hk with ⟨Hk0, Hk1, Hk⟩
  icases Hv with ⟨Hv0, Hv1, Hv⟩
  unfold freeS
  icases Fk0 with ⟨Ck0, %fk0, Sk0⟩
  icases Fk1 with ⟨Ck1, %fk1, Sk1⟩
  icases Fv0 with ⟨Cv0, %fv0, Sv0⟩
  icases Fv1 with ⟨Cv1, %fv1, Sv1⟩
  sl_exec
  ihave Rk := (inRing_enter c cc0_scratch5 0 kbM ktM XK) $$ [Hk Ck0 Ck1 Fk2]
  · unfold inflS freeS
    isplitl [Hk]; · iexact Hk
    isplitl [Ck0]; · iexists fk0; iexact Ck0
    isplitl [Ck1]; · iexists fk1; iexact Ck1
    iexact Fk2
  ihave Rv := (inRing_enter c cc0_scratch5 1 vbM vtM XV) $$ [Hv Cv0 Cv1 Fv2]
  · unfold inflS freeS
    isplitl [Hv]; · iexact Hv
    isplitl [Cv0]; · iexists fv0; iexact Cv0
    isplitl [Cv1]; · iexists fv1; iexact Cv1
    iexact Fv2
  ihave HI := (loop_enter c arg0 harg0 arg5 harg5 XK XV XO XP (ttM.view.writes (Elt F) ttM.view.junk (bodyRun.sl.HT_1 arg0 X0))) $$ [HT HW Rk Rv HO HP FO FP]
  · unfold tripInv
    isplitl [HT]; · iexact HT
    isplitl [HW]; · iexists _; iexact HW
    isplitl [Rk]; · iexact Rk
    isplitl [Rv]; · iexact Rv
    isplitl [HO FO]
    · iapply (outRing_enter c cc0_scratch6 0 kobM koM XO)
      isplitl [HO]; · iexact HO
      iexact FO
    iapply (outRing_enter c cc0_scratch6 1 vobM voM XP)
    isplitl [HP]; · iexact HP
    iexact FP
  iapply (exec_loop _ _ _ _ _ _ _ _ _ (loopInv c arg0 harg0 arg5 harg5 XK XV XO XP (ttM.view.writes (Elt F) ttM.view.junk (bodyRun.sl.HT_1 arg0 X0)))) $$ HI
  iintro %u HI
  ihave HI := (loop_leave c arg0 harg0 arg5 harg5 XK XV XO XP (ttM.view.writes (Elt F) ttM.view.junk (bodyRun.sl.HT_1 arg0 X0)) u) $$ HI
  unfold tripInv
  icases HI with ⟨HT, ⟨%W', HW⟩, Rk, Rv, RO, RP⟩
  ihave Rk := (inRing_leave c cc0_scratch5 0 kbM ktM XK) $$ Rk
  ihave Rv := (inRing_leave c cc0_scratch5 1 vbM vtM XV) $$ Rv
  ihave RO := (outRing_leave c cc0_scratch6 0 kobM koM XO _) $$ RO
  ihave RP := (outRing_leave c cc0_scratch6 1 vobM voM XP _) $$ RP
  unfold inflB
  icases RO with ⟨DO, ⟨%o2, O2⟩, ⟨%o0, O0⟩, ⟨%o1, O1⟩⟩
  icases RP with ⟨DP, ⟨%p2, P2⟩, ⟨%p0, P0⟩, ⟨%p1, P1⟩⟩
  sl_exec
  have eL : arg0.view.readAt (Elt F) (Rect.unit (s := S65x96) ![0, 0] S65x96.size inb_S65x96_S65x96_0_0).toLoadRect (arg0.view.rep X0) = X0 :=
    View.readAt_rep_full _ _ _
  have eT : ttLoad c (ttM.view.writes (Elt F) ttM.view.junk (bodyRun.sl.HT_1 arg0 X0)) = ttOf X0 :=
    (View.readAt_writes_full _ _ _ _ _ _).trans (congrArg ttOf eL)
  have eB : arg5.view.read (Elt F) (arg5.view.writes (Elt F) arg5.view.junk (bodyRun.sl.Hb_1 arg0 X0)) = biasOf X0 :=
    (View.read_writes_full _ _ _ _ _).trans (congrArg biasOf eL)
  rw [eT]
  sl_step
  iapply HQ
  isplitl [Hin]; · iexact Hin
  isplitl [Hb]; · iapply (pointsTo_rep_of_read (c : Thread nD τ) arg5 _ fullShare _ eB) $$ Hb
  isplitl [HW]; · iexists _; iexact HW
  icases Rk with ⟨Hk, Fk⟩
  icases Rv with ⟨Hv, Fv⟩
  isplitl [HT Hk Hv Fk Fv O0 O0_src O1 O1_src O2 O2_src P0 P0_src P1 P1_src P2 P2_src]
  · isplitl [HT]; · iexists _; iexact HT
    isplitl [Hk]; · iexact Hk
    isplitl [Hv]; · iexact Hv
    isplitl [Fk]; · iexact Fk
    isplitl [Fv]; · iexact Fv
    unfold freeAll freeS
    isplitl [O0 O0_src O1 O1_src O2 O2_src]
    · isplitl [O0 O0_src]
      · isplitl [O0]; · iexact O0
        iexists _; iexact O0_src
      isplitl [O1 O1_src]
      · isplitl [O1]; · iexact O1
        iexists _; iexact O1_src
      isplitl [O2]; · iexact O2
      iexists _; iexact O2_src
    · isplitl [P0 P0_src]
      · isplitl [P0]; · iexact P0
        iexists _; iexact P0_src
      isplitl [P1 P1_src]
      · isplitl [P1]; · iexact P1
        iexists _; iexact P1_src
      isplitl [P2]; · iexact P2
      iexists _; iexact P2_src
  isplitl [DO O2_dst O0_dst O1_dst]
  · iapply (done_all c koM)
    isplitl [O2_dst]; · iexact O2_dst
    isplitl [O0_dst]; · iexact O0_dst
    isplitl [O1_dst]; · iexact O1_dst
    iexact DO
  · iapply (done_all c voM)
    isplitl [P2_dst]; · iexact P2_dst
    isplitl [P0_dst]; · iexact P0_dst
    isplitl [P1_dst]; · iexact P1_dst
    iexact DP

end Body
end Cert.Proof.KernelIdeal

end
-- ==== Proof.KernelIdeal.Split.lean ====
/-
  The launch's whole buffers and the body's pieces: a three-slot buffer is its three slots, an array of 32 blocks its 32
  blocks, and 32 blocks written are the array at one contents (`glued`).
-/
module

public import proofs.«01_k».proof.Proof.KernelIdeal.Body
public import Idealize.ShloMosaic.Lib.Pointwise.Index

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Element sets of blocks and slots -/

abbrev bset (b : Fin 32) : Finset S32x1024x1024.Idx := (blkR b).set
/-- The elements of a slot. -/
abbrev sset (s : Fin 3) : Finset S3x1024x1024.Idx := (slotR s).set

/-- Block `b` is the elements whose leading coordinate is `b`; slot `s` likewise. -/
theorem mem_bset (b : Fin 32) (y : S32x1024x1024.Idx) : y ∈ bset b ↔ (y 0).val = b.val := by
  rw [Rect.mem_set_unit]
  have h1 : (y 1).val < 1024 := (y 1).isLt
  have h2 : (y 2).val < 1024 := (y 2).isLt
  constructor
  · intro H; have h0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 1024; omega
    · show 0 ≤ (y 2).val ∧ (y 2).val < 0 + 1024; omega
/-- They are those whose first coordinate is the slot. -/
theorem mem_sset (s : Fin 3) (y : S3x1024x1024.Idx) : y ∈ sset s ↔ (y 0).val = s.val := by
  rw [Rect.mem_set_unit]
  have h1 : (y 1).val < 1024 := (y 1).isLt
  have h2 : (y 2).val < 1024 := (y 2).isLt
  constructor
  · intro H; have h0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 1024; omega

/-- Different blocks share no element. -/
theorem bset_disjoint (b b' : Fin 32) (h : b ≠ b') : Disjoint (bset b) (bset b') :=
  Finset.disjoint_left.mpr fun y hy hy' => h (Fin.ext (((mem_bset b y).mp hy).symm.trans ((mem_bset b' y).mp hy')))
/-- Different slots share no element. -/
theorem sset_disjoint (s s' : Fin 3) (h : s ≠ s') : Disjoint (sset s) (sset s') :=
  Finset.disjoint_left.mpr fun y hy hy' => h (Fin.ext (((mem_sset s y).mp hy).symm.trans ((mem_sset s' y).mp hy')))
/-- The blocks make up the array. -/
theorem bset_cover : (Finset.univ : Finset (Fin 32)).biUnion bset = Finset.univ :=
  Finset.eq_univ_iff_forall.mpr fun y => Finset.mem_biUnion.mpr ⟨⟨(y 0).val, (y 0).isLt⟩, Finset.mem_univ _, (mem_bset _ y).mpr rfl⟩
/-- The slots make up the buffer. -/
theorem sset_cover : (Finset.univ : Finset (Fin 3)).biUnion sset = Finset.univ :=
  Finset.eq_univ_iff_forall.mpr fun y => Finset.mem_biUnion.mpr ⟨⟨(y 0).val, (y 0).isLt⟩, Finset.mem_univ _, (mem_sset _ y).mpr rfl⟩

/-- Equal assertions entail each other. -/
theorem of_eq {P Q : sProp 𝕄} (e : P = Q) : P ⊢ Q := e ▸ .rfl

/-! ## A three-slot buffer is its slots -/

section Slots
variable (c : Dev nD) (A : DmaSems sig S2x3) (i : Fin 2) (B : Memref sig .tc .vmem S3x1024x1024 .f32)

/-- Slot `s`'s elements, as elements of the buffer. -/
abbrev slotSet (s : Fin 3) : Finset B.view.ty.Idx := (slot B s).view.set
/-- The slots are apart and cover the buffer. -/
def Slotted : Prop :=
  (∀ s s' : Fin 3, s ≠ s' → Disjoint (slotSet B s) (slotSet B s'))
    ∧ (Finset.univ : Finset (Fin 3)).biUnion (slotSet B) = Finset.univ

omit [FloatOps F] in
theorem bigSep_three (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- The buffer at anything and its three semaphores at zero: the three slots free; -/
theorem free_split (h : Slotted B) :
    iprop((∃ f : Buf (Elt F) (B.view.loc (c : Thread nD τ)), (B.view.loc (c : Thread nD τ)) ↦{fullShare} f)
      ∗ cellP c A i 0 ∗ cellP c A i 1 ∗ cellP c A i 2) ⊢ (freeAll c A i B : sProp 𝕄) := by
  iintro ⟨⟨%f, H⟩, C0, C1, C2⟩
  ihave H := (of_eq ((Ring.pointsTo_blocks (Ix := Unit) (Name := ℕ) (U := UU nD τ) (Lvl := ℕ) (q := fullShare)
    (ℓ := B.view.loc (c : Thread nD τ)) (slotSet B) h.1 h.2 f).trans (bigSep_three _))) $$ H
  icases H with ⟨H0, H1, H2⟩
  unfold freeAll freeS
  isplitl [C0 H0]
  · isplitl [C0]; · iexact C0
    iexists f; iexact H0
  isplitl [C1 H1]
  · isplitl [C1]; · iexact C1
    iexists f; iexact H1
  · isplitl [C2]; · iexact C2
    iexists f; iexact H2

/-- and back. -/
theorem free_join (h : Slotted B) :
    (freeAll c A i B : sProp 𝕄) ⊢ iprop((∃ f : Buf (Elt F) (B.view.loc (c : Thread nD τ)), (B.view.loc (c : Thread nD τ)) ↦{fullShare} f)
      ∗ cellP c A i 0 ∗ cellP c A i 1 ∗ cellP c A i 2) := by
  unfold freeAll freeS
  iintro ⟨⟨C0, %f0, H0⟩, ⟨C1, %f1, H1⟩, ⟨C2, %f2, H2⟩⟩
  isplitl [H0 H1 H2]
  · iapply (Ring.pointsTo_blocks_join_exists (ℓ := B.view.loc (c : Thread nD τ)) (slotSet B) h.1 h.2 f0)
    irw [bigSep_three]
    isplitl [H0]; · iexists f0; iexact H0
    isplitl [H1]; · iexists f1; iexact H1
    iexists f2; iexact H2
  isplitl [C0]; · iexact C0
  isplitl [C1]; · iexact C1
  iexact C2

end Slots

/-- A buffer whose slots are given by disjoint sets that cover it can be cut into its slots. -/
theorem slotted_of (B : Memref sig .tc .vmem S3x1024x1024 .f32) (J : Fin 3 → Finset B.view.ty.Idx)
    (e : ∀ s, slotSet B s = J s) (hd : ∀ s s' : Fin 3, s ≠ s' → Disjoint (J s) (J s'))
    (hc : (Finset.univ : Finset (Fin 3)).biUnion J = Finset.univ) : Slotted B := by
  have e' : slotSet B = J := funext e
  refine ⟨fun s s' h => ?_, ?_⟩
  · rw [e, e]; exact hd s s' h
  · rw [e']; exact hc
/-- So can each of the four buffers: -/
theorem slotted_kb : Slotted kbM := slotted_of kbM sset (fun s => (View.set_reshape _ _).trans (View.set_slice_whole _ _)) sset_disjoint sset_cover
/-- the second, -/
theorem slotted_vb : Slotted vbM := slotted_of vbM sset (fun s => (View.set_reshape _ _).trans (View.set_slice_whole _ _)) sset_disjoint sset_cover
/-- the third, -/
theorem slotted_kob : Slotted kobM := slotted_of kobM sset (fun s => (View.set_reshape _ _).trans (View.set_slice_whole _ _)) sset_disjoint sset_cover
/-- the fourth. -/
theorem slotted_vob : Slotted vobM := slotted_of vobM sset (fun s => (View.set_reshape _ _).trans (View.set_slice_whole _ _)) sset_disjoint sset_cover

/-! ## An array is its blocks -/

section Blocks
variable (c : Dev nD) (M : Memref sig .tc .hbm S32x1024x1024 .f32)

/-- Block `b`'s elements, as elements of the array. -/
abbrev blkSet (b : Fin 32) : Finset M.view.ty.Idx := (blk M b).view.set
/-- The blocks are apart and cover the array. -/
def Blocked : Prop :=
  (∀ b b' : Fin 32, b ≠ b' → Disjoint (blkSet M b) (blkSet M b'))
    ∧ (Finset.univ : Finset (Fin 32)).biUnion (blkSet M) = Finset.univ

/-- An array whose blocks are given by disjoint sets that cover it can be cut into its blocks. -/
theorem blocked_of (J : Fin 32 → Finset M.view.ty.Idx)
    (e : ∀ b, blkSet M b = J b) (hd : ∀ b b' : Fin 32, b ≠ b' → Disjoint (J b) (J b'))
    (hc : (Finset.univ : Finset (Fin 32)).biUnion J = Finset.univ) : Blocked M := by
  have e' : blkSet M = J := funext e
  refine ⟨fun b b' h => ?_, ?_⟩
  · rw [e, e]; exact hd b b' h
  · rw [e']; exact hc

/-- The array whole is its blocks; -/
theorem blocks_eq (h : Blocked M) (X : Buf (Elt F) (M.view.loc (c : Thread nD τ))) :
    ((M.view.loc (c : Thread nD τ)) ↦{fullShare} X : sProp 𝕄) = bigSep Finset.univ (fun b : Fin 32 => blkP c b M X) :=
  Ring.pointsTo_blocks (ℓ := M.view.loc (c : Thread nD τ)) (blkSet M) h.1 h.2 X

/-- and blocks written with the elements `d b` are the array at any contents reading `d b` in block `b`. -/
theorem done_join (h : Blocked M) (d : Fin 32 → S1024x1024.Idx → Elt F .f32) (X : Buf (Elt F) (M.view.loc (c : Thread nD τ)))
    (hX : ∀ b, (blk M b).view.read (Elt F) X = d b) :
    bigSep Finset.univ (doneB c M d) = ((M.view.loc (c : Thread nD τ)) ↦{fullShare} X : sProp 𝕄) := by
  rw [blocks_eq c M h X]
  refine bigSep_congr fun b _ => ?_
  unfold doneB
  rw [← hX b]
  exact (pointsTo_rep (c : Thread nD τ) (blk M b) X fullShare).symm

end Blocks

/-- The elements of a block are those of its rectangle. -/
theorem blk_set (b : Fin 32) : (blk ktM b).view.set = bset b := (View.set_reshape _ _).trans (View.set_slice_whole _ _)
/-- So each of the four arrays can be cut: -/
theorem blocked_kt : Blocked ktM := blocked_of ktM bset (fun b => (View.set_reshape _ _).trans (View.set_slice_whole _ _)) bset_disjoint bset_cover
/-- the second, -/
theorem blocked_vt : Blocked vtM := blocked_of vtM bset (fun b => (View.set_reshape _ _).trans (View.set_slice_whole _ _)) bset_disjoint bset_cover
/-- the third, -/
theorem blocked_ko : Blocked koM := blocked_of koM bset (fun b => (View.set_reshape _ _).trans (View.set_slice_whole _ _)) bset_disjoint bset_cover
/-- the fourth. -/
theorem blocked_vo : Blocked voM := blocked_of voM bset (fun b => (View.set_reshape _ _).trans (View.set_slice_whole _ _)) bset_disjoint bset_cover

/-! ## The written arrays -/

/-- A block's index as an index of the box of size one by the block. -/
theorem box_eq (y : S1024x1024.Idx) : box y = (ix3 0 (y 0) (y 1) : S1x1024x1024.Idx) := by
  refine (Shape.reshapeEquiv_cons_one (n := 2) (d := ![1024, 1024]) _ y).trans ?_
  funext a; fin_cases a <;> rfl

omit [FloatOps F] in
/-- Element `y` of block `b` is the array's element `(b, y)`. -/
theorem read_blk (c : Dev nD) (M : Memref sig .tc .hbm S32x1024x1024 .f32) (b : Fin 32) (X : Buf (Elt F) (M.view.loc (c : Thread nD τ))) (y : S1024x1024.Idx) :
    (blk M b).view.read (Elt F) X y = M.view.read (Elt F) X (ix3 b (y 0) (y 1) : S32x1024x1024.Idx) := by
  refine congrArg (M.view.read (Elt F) X) (a₁ := (blkR b).toLoadRect.idx (box y)) ?_
  rw [box_eq]
  funext a; apply Fin.ext; fin_cases a
  · show b.val + 1 * 0 = b.val; omega
  · show 0 + 1 * (y 0).val = (y 0).val; omega
  · show 0 + 1 * (y 1).val = (y 1).val; omega

/-- The array whose block `b` holds `d b`. -/
def glued (d : Fin 32 → S1024x1024.Idx → Elt F .f32) : S32x1024x1024.Idx → Elt F .f32 :=
  fun i => d (i 0) (ix2 (i 1) (i 2) : S1024x1024.Idx)

omit [FloatOps F] in
theorem read_glued_ko (c : Dev nD) (d : Fin 32 → S1024x1024.Idx → Elt F .f32) (b : Fin 32) :
    (blk koM b).view.read (Elt F) (glued d : Buf (Elt F) (koM.view.loc (c : Thread nD τ))) = d b := by
  funext y
  rw [read_blk c koM b]
  exact congrArg (d b) (eq_ix2 y).symm
omit [FloatOps F] in
theorem read_glued_vo (c : Dev nD) (d : Fin 32 → S1024x1024.Idx → Elt F .f32) (b : Fin 32) :
    (blk voM b).view.read (Elt F) (glued d : Buf (Elt F) (voM.view.loc (c : Thread nD τ))) = d b := by
  funext y
  rw [read_blk c voM b]
  exact congrArg (d b) (eq_ix2 y).symm

end Cert.Proof.KernelIdeal

end
-- ==== Proof.KernelIdeal.Launch.lean ====
/-
  The launch of the kernel `KernelIdeal`: the pipeline of one point around the body, the host lines before and after it,
  and the run of the whole program from any memory: it ends, the arguments unchanged, every semaphore at zero, and every
  buffer the pipeline does not stage as the host lines compute it from the written results.
-/
module

public import proofs.«01_k».proof.Proof.KernelIdeal.Split

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The kernel's own semaphores -/

/-- Twelve: two arrays of two by three. -/
abbrev osem : Fin 12 → SemLoc sig :=
  ![.dma (sem cc0_scratch5 0 0).sem, .dma (sem cc0_scratch5 0 1).sem, .dma (sem cc0_scratch5 0 2).sem,
    .dma (sem cc0_scratch5 1 0).sem, .dma (sem cc0_scratch5 1 1).sem, .dma (sem cc0_scratch5 1 2).sem,
    .dma (sem cc0_scratch6 0 0).sem, .dma (sem cc0_scratch6 0 1).sem, .dma (sem cc0_scratch6 0 2).sem,
    .dma (sem cc0_scratch6 1 0).sem, .dma (sem cc0_scratch6 1 1).sem, .dma (sem cc0_scratch6 1 2).sem]
/-- The kernel's own semaphores are none of the pipeline's. -/
theorem ownSemFacts : Pipeline.OwnSemFacts spec0 osem := by decide

omit [FloatOps F] in
/-- At zero, they are the rings' cells. -/
theorem ownSems0_eq (c : Dev nD) : (Pipeline.ownSems0 (Ix := Unit) (Name := ℕ) (U := UU nD τ) (Lvl := ℕ) (Val := Elt F) (τ := τ) osem c : sProp 𝕄)
    = iprop(cellP c cc0_scratch5 0 0 ∗ cellP c cc0_scratch5 0 1 ∗ cellP c cc0_scratch5 0 2
      ∗ cellP c cc0_scratch5 1 0 ∗ cellP c cc0_scratch5 1 1 ∗ cellP c cc0_scratch5 1 2
      ∗ cellP c cc0_scratch6 0 0 ∗ cellP c cc0_scratch6 0 1 ∗ cellP c cc0_scratch6 0 2
      ∗ cellP c cc0_scratch6 1 0 ∗ cellP c cc0_scratch6 1 1 ∗ cellP c cc0_scratch6 1 2) :=
  Pipeline.ownSems0_eq_of_list c osem [0, 1, 2, 3, 4, 5, 6, 7, 8, 9, 10, 11] (by decide) (by decide)

/-! ## The body's memory from the launch's and back -/

/-- The scoped buffers beside the staging buffers, each at anything. -/
abbrev scratchP (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

omit [FloatOps F] in
theorem ttP_eq (c : Dev nD) (T : Buf (Elt F) (ttM.view.loc (c : Thread nD τ))) :
    ttP c T = (((c : Thread nD τ).loc cc0_scratch4) ↦{fullShare} T : sProp 𝕄) :=
  congrArg (fun S => (((c : Thread nD τ).loc cc0_scratch4) ↦[S]{fullShare} T : sProp 𝕄)) (View.set_whole cc0_scratch4)

section Own
variable (c : Dev nD) (XK : Buf (Elt F) (ktM.view.loc (c : Thread nD τ))) (XV : Buf (Elt F) (vtM.view.loc (c : Thread nD τ)))

/-- The scratch buffers, the semaphores at zero and the two arrays read make up what the body owns, -/
theorem own_enter :
    iprop(scratchP c ∗ (cellP c cc0_scratch5 0 0 ∗ cellP c cc0_scratch5 0 1 ∗ cellP c cc0_scratch5 0 2
      ∗ cellP c cc0_scratch5 1 0 ∗ cellP c cc0_scratch5 1 1 ∗ cellP c cc0_scratch5 1 2
      ∗ cellP c cc0_scratch6 0 0 ∗ cellP c cc0_scratch6 0 1 ∗ cellP c cc0_scratch6 0 2
      ∗ cellP c cc0_scratch6 1 0 ∗ cellP c cc0_scratch6 1 1 ∗ cellP c cc0_scratch6 1 2)
      ∗ (ktM.view.loc (c : Thread nD τ) ↦{fullShare} XK) ∗ (vtM.view.loc (c : Thread nD τ) ↦{fullShare} XV)) ⊢ (ownP c XK XV : sProp 𝕄) := by
  iintro ⟨⟨B0, B1, B2, B3, ⟨%T, B4⟩⟩, ⟨C0, C1, C2, C3, C4, C5, C6, C7, C8, C9, C10, C11⟩, Hk, Hv⟩
  isplitl [B4]
  · iexists T; iapply (of_eq (ttP_eq c T).symm) $$ B4
  isplitl [Hk]; · iapply (of_eq (blocks_eq c ktM blocked_kt XK)) $$ Hk
  isplitl [Hv]; · iapply (of_eq (blocks_eq c vtM blocked_vt XV)) $$ Hv
  isplitl [B0 C0 C1 C2]
  · iapply (free_split c cc0_scratch5 0 kbM slotted_kb)
    isplitl [B0]; · iexact B0
    isplitl [C0]; · iexact C0
    isplitl [C1]; · iexact C1
    iexact C2
  isplitl [B1 C3 C4 C5]
  · iapply (free_split c cc0_scratch5 1 vbM slotted_vb)
    isplitl [B1]; · iexact B1
    isplitl [C3]; · iexact C3
    isplitl [C4]; · iexact C4
    iexact C5
  isplitl [B2 C6 C7 C8]
  · iapply (free_split c cc0_scratch6 0 kobM slotted_kob)
    isplitl [B2]; · iexact B2
    isplitl [C6]; · iexact C6
    isplitl [C7]; · iexact C7
    iexact C8
  · iapply (free_split c cc0_scratch6 1 vobM slotted_vob)
    isplitl [B3]; · iexact B3
    isplitl [C9]; · iexact C9
    isplitl [C10]; · iexact C10
    iexact C11

/-- and come apart again when it is done. -/
theorem own_leave :
    (ownP c XK XV : sProp 𝕄) ⊢ iprop(scratchP c ∗ (cellP c cc0_scratch5 0 0 ∗ cellP c cc0_scratch5 0 1 ∗ cellP c cc0_scratch5 0 2
      ∗ cellP c cc0_scratch5 1 0 ∗ cellP c cc0_scratch5 1 1 ∗ cellP c cc0_scratch5 1 2
      ∗ cellP c cc0_scratch6 0 0 ∗ cellP c cc0_scratch6 0 1 ∗ cellP c cc0_scratch6 0 2
      ∗ cellP c cc0_scratch6 1 0 ∗ cellP c cc0_scratch6 1 1 ∗ cellP c cc0_scratch6 1 2)
      ∗ (ktM.view.loc (c : Thread nD τ) ↦{fullShare} XK) ∗ (vtM.view.loc (c : Thread nD τ) ↦{fullShare} XV)) := by
  iintro ⟨⟨%T, HT⟩, Hk, Hv, F0, F1, F2, F3⟩
  ihave F0 := (free_join c cc0_scratch5 0 kbM slotted_kb) $$ F0
  icases F0 with ⟨B0, C0, C1, C2⟩
  ihave F1 := (free_join c cc0_scratch5 1 vbM slotted_vb) $$ F1
  icases F1 with ⟨B1, C3, C4, C5⟩
  ihave F2 := (free_join c cc0_scratch6 0 kobM slotted_kob) $$ F2
  icases F2 with ⟨B2, C6, C7, C8⟩
  ihave F3 := (free_join c cc0_scratch6 1 vobM slotted_vob) $$ F3
  icases F3 with ⟨B3, C9, C10, C11⟩
  isplitl [B0 B1 B2 B3 HT]
  · isplitl [B0]; · iexact B0
    isplitl [B1]; · iexact B1
    isplitl [B2]; · iexact B2
    isplitl [B3]; · iexact B3
    iexists T; iapply (of_eq (ttP_eq c T)) $$ HT
  isplitl [C0 C1 C2 C3 C4 C5 C6 C7 C8 C9 C10 C11]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    iexact C11
  isplitl [Hk]; · iapply (of_eq (blocks_eq c ktM blocked_kt XK).symm) $$ Hk
  iapply (of_eq (blocks_eq c vtM blocked_vt XV).symm) $$ Hv

end Own

/-! ## The pipeline's proof data -/

section Launch
variable (m : (ℓ : Loc nD τ sig) → Buf (Elt F) ℓ) (ρ : Dev nD → PrngReg)

/-- The table as the region finds it, and the row table the body computes from it. -/
abbrev tabs (c : Dev nD) : Vec F S65x96 .f32 := iblk m c 0 t0_0
/-- The row table of a device. -/
abbrev rows (c : Dev nD) : Vec F S1024x96 .f32 := ttOf (tabs m c)

/-- The results the region writes: every block as its trip computes it. -/
abbrev koutF (c : Dev nD) : Buf (Elt F) (koM.view.loc (c : Thread nD τ)) := glued (outK c (V m c main_v1) (rows m c))
/-- The second written array. -/
abbrev voutF (c : Dev nD) : Buf (Elt F) (voM.view.loc (c : Thread nD τ)) := glued (outV c (V m c main_v3) (rows m c))

/-- The body's memory with the two results at the given contents, -/
def ΦL (c : Dev nD) (O : Buf (Elt F) (koM.view.loc (c : Thread nD τ))) (P : Buf (Elt F) (voM.view.loc (c : Thread nD τ))) : sProp 𝕄 :=
  iprop(ownP c (V m c main_v1) (V m c main_v3) ∗ (koM.view.loc (c : Thread nD τ) ↦{fullShare} O) ∗ (voM.view.loc (c : Thread nD τ) ↦{fullShare} P))
/-- before the one point as launched, after it as written. -/
def Φ (c : Dev nD) (t : Fin (cfg0.N + 1)) : sProp 𝕄 :=
  if t.val = 0 then ΦL m c (V m c main_v6_0) (V m c main_v6_1) else ΦL m c (koutF m c) (voutF m c)

/-- Before the only point the two written arrays are as the region found them. -/
theorem Φ_first (c : Dev nD) (t : Fin (cfg0.N + 1)) (h : t.val = 0) : Φ m c t = ΦL m c (V m c main_v6_0) (V m c main_v6_1) := by
  unfold Φ; exact if_pos h
/-- After it they hold the results. -/
theorem Φ_last (c : Dev nD) (t : Fin (cfg0.N + 1)) (h : t.val ≠ 0) : Φ m c t = ΦL m c (koutF m c) (voutF m c) := by
  unfold Φ; exact if_neg h

/-- The pipeline's proof data. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => biasOf (iblk m c 0 t)
  Φ t := Φ m c t
  q _ := fullShare
  owed _ := 0

/-- Its invariant is `Φ`. -/
theorem dats_Φ (c : Dev nD) (t : Fin (cfg0.N + 1)) : (dats m 0 c).Φ t = Φ m c t := by dsimp only [dats]
/-- The first window holds its block before a point, -/
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
/-- and after it; -/
theorem after_w0 (c : Dev nD) (t : Fin cfg0.N) : (dats m 0 c).after 0 t = iblk m c 0 t := by dsimp only [dats]
/-- the second then holds the bias. -/
theorem after_w1 (c : Dev nD) (t : Fin cfg0.N) : (dats m 0 c).after 1 t = biasOf (iblk m c 0 t) := by dsimp only [dats]

/-- The buffer of the first window at a point. -/
abbrev st0 (t : Fin cfg0.N) : Memref sig .tc .vmem S65x96 .f32 := win0_0.stage (cfg0.slots t 0)
/-- The buffer of the second window at a point. -/
abbrev st1 (t : Fin cfg0.N) : Memref sig .tc .vmem S1024x32 .f32 := win0_1.stage (cfg0.slots t 1)
/-- The first buffer is a whole buffer. -/
abbrev hst0 (t : Fin cfg0.N) : (st0 t).IsWhole := hstage0_0 0
/-- The second buffer is a whole buffer. -/
abbrev hst1 (t : Fin cfg0.N) : (st1 t).IsWhole := hstage0_1 0

/-- The table of bodies holds the kernel body, -/
theorem defs_tc : (defs₀ (F := F)) .tc cfg0.body
    = fun a => bodyG (win0_0.stage (a.2 0)) (hstage0_0 0) (win0_1.stage (a.2 1)) (hstage0_1 0) := rfl
/-- called on the two buffers of a point. -/
theorem prog_eq (t : Fin cfg0.N) : (defs₀ (F := F)) .tc cfg0.body (cfg0.bodyArgs t (cfg0.slots t)) = bodyG (st0 t) (hst0 t) (st1 t) (hst1 t) :=
  (congrFun defs_tc _).trans rfl

set_option backward.isDefEq.respectTransparency.types false in
/-- The body meets what the pipeline asks of it. -/
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, after_w0, after_w1]
  rw [show (dats m 0 c).Φ t0_0.castSucc = ΦL m c (V m c main_v6_0) (V m c main_v6_1) from (dats_Φ m c _).trans (Φ_first m c _ rfl),
    show (dats m 0 c).Φ t0_0.succ = ΦL m c (koutF m c) (voutF m c) from (dats_Φ m c _).trans (Φ_last m c _ (Nat.succ_ne_zero _))]
  unfold Dat.owesAt Pipeline.owesWithin
  rw [show (dats m 0 c).owed t0_0.castSucc = 0 from rfl, show (dats m 0 c).owed t0_0.succ = 0 from rfl]
  unfold owns ΦL
  iintro ⟨⟨Hown, HO, HP⟩, ⟨%W, -, HW⟩, ⟨%d0, %g0, %hg0, Hin⟩, ⟨%d1, %gb, -, Hb⟩⟩
  ihave Hin' := (pointsTo_rep_entails (c : Thread nD τ) (st0 t0_0) g0 fullShare) $$ Hin
  rw [hg0]
  ihave HO := (of_eq (blocks_eq c koM blocked_ko (V m c main_v6_0))) $$ HO
  ihave HP := (of_eq (blocks_eq c voM blocked_vo (V m c main_v6_1))) $$ HP
  sl_rw [prog_eq t0_0]
  iapply (bodyRun c (st0 t0_0) (hst0 t0_0) (st1 t0_0) (hst1 t0_0) (V m c main_v1) (V m c main_v3) (V m c main_v6_0) (V m c main_v6_1) (tabs m c) gb W)
  isplitl [Hin' Hb HW Hown HO HP]
  · isplitl [Hin']; · iexact Hin'
    isplitl [Hb]; · iexact Hb
    isplitl [HW]; · iexact HW
    isplitl [Hown]; · iexact Hown
    isplitl [HO]; · iexact HO
    iexact HP
  · iintro ⟨Hin, Hb, ⟨%W', HW⟩, Hown, HO, HP⟩
    isplitl [Hown HO HP]
    · isplitl [Hown]; · iexact Hown
      isplitl [HO]
      · iapply (of_eq (done_join c koM blocked_ko _ (koutF m c) (read_glued_ko c _))) $$ HO
      iapply (of_eq (done_join c voM blocked_vo _ (voutF m c) (read_glued_vo c _))) $$ HP
    isplitl [HW]
    · iexists W'; isplitr; · ipureintro; exact fun _ _ => Or.inl trivial
      iexact HW
    isplitl [Hin]
    · iexists _; isplitr; · ipureintro; exact View.read_rep _ _
      iexact Hin
    iexists _; isplitr; · ipureintro; exact View.read_rep _ _
    iexact Hb

/-! ## The run -/

/-- The unscoped buffers the body reads beside the pipeline, and those it writes. -/
abbrev readRefs : Finset (Ref sig .tc) := {main_v1, main_v3}
/-- The arrays that the body writes. -/
abbrev writtenRefs : Finset (Ref sig .tc) := {main_v6_0, main_v6_1}
/-- What the written ones hold after the region. -/
def written (c : Dev nD) : (b : Ref sig .tc) → Buf (Elt F) ((c : Thread nD τ).loc b) :=
  Function.update (Function.update (V m c) main_v6_0 (koutF m c)) main_v6_1 (voutF m c)
/-- The first of them ends as the first written array. -/
theorem written_ko (c : Dev nD) : written m c main_v6_0 = koutF m c := by
  unfold written; rw [Function.update_of_ne (by decide), Function.update_self]
/-- The second of them ends as the second. -/
theorem written_vo (c : Dev nD) : written m c main_v6_1 = voutF m c := by
  unfold written; rw [Function.update_self]

/-- Core `c`'s buffers when the region is left, and after the host lines that follow. -/
abbrev mid (c : Dev nD) : Valuation τ sig (Elt F) :=
  Pipeline.withArrays spec0 c (Pipeline.withR (V0 m c) writtenRefs c (written m c)) fun w => (dats m 0 c).arrAt w cfg0.N
/-- What a buffer holds when the program ends. -/
abbrev fin (c : Dev nD) (b : Ref sig .tc) : Buf (Elt F) ((c : Thread nD τ).loc b) :=
  StableHlo.after (List.flatten [hostOps1]) (mid m c) (Proc.devRef .tc b)

/-- The arrays read are two. -/
theorem bigSep_read (Φ' : Ref sig .tc → sProp 𝕄) : bigSep readRefs Φ' = iprop(Φ' main_v1 ∗ Φ' main_v3) :=
  bigSep_eq_bigSepL_of_eq [main_v1, main_v3] (by decide) (by decide) Φ'
/-- The arrays written are two. -/
theorem bigSep_written (Φ' : Ref sig .tc → sProp 𝕄) : bigSep writtenRefs Φ' = iprop(Φ' main_v6_0 ∗ Φ' main_v6_1) :=
  bigSep_eq_bigSepL_of_eq [main_v6_0, main_v6_1] (by decide) (by decide) Φ'

set_option maxHeartbeats 800000 in
/-- @main as the host lines before the region, the region, the host lines after it. -/
theorem main_around : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- What the region hands over is the invariant at its start, -/
theorem enter_Φ (c : Dev nD) : Pipeline.ΦDRV osem spec0 readRefs writtenRefs (V m) (V m) c ⊢ (dats m 0 c).Φ 0 := by
  rw [show (dats m 0 c).Φ 0 = ΦL m c (V m c main_v6_0) (V m c main_v6_1) from (dats_Φ m c _).trans (Φ_first m c _ rfl)]
  unfold Pipeline.ΦDRV ΦL
  rw [scopedRest0_eq, ownSems0_eq, bigSep_read, bigSep_written]
  iintro ⟨HB, HC, ⟨Hk, Hv⟩, HO, HP⟩
  isplitl [HB HC Hk Hv]
  · iapply (own_enter c (V m c main_v1) (V m c main_v3))
    isplitl [HB]; · iexact HB
    isplitl [HC]; · iexact HC
    isplitl [Hk]; · iexact Hk
    iexact Hv
  isplitl [HO]; · iexact HO
  iexact HP

/-- and the invariant at its end is what the region takes back. -/
theorem leave_Φ (c : Dev nD) : (dats m 0 c).Φ (Fin.last cfg0.N) ⊢ Pipeline.ΦDRV osem spec0 readRefs writtenRefs (V m) (written m) c := by
  rw [show (dats m 0 c).Φ (Fin.last cfg0.N) = ΦL m c (koutF m c) (voutF m c) from (dats_Φ m c _).trans (Φ_last m c _ (by decide +kernel))]
  unfold Pipeline.ΦDRV ΦL
  rw [scopedRest0_eq, ownSems0_eq, bigSep_read, bigSep_written, written_ko, written_vo]
  iintro ⟨Hown, HO, HP⟩
  ihave H := (own_leave c (V m c main_v1) (V m c main_v3)) $$ Hown
  icases H with ⟨HB, HC, Hk, Hv⟩
  isplitl [HB]; · iexact HB
  isplitl [HC]; · iexact HC
  isplitl [Hk Hv]
  · isplitl [Hk]; · iexact Hk
    iexact Hv
  isplitl [HO]; · iexact HO
  iexact HP

set_option backward.isDefEq.respectTransparency.types false in
/-- From any memory with every semaphore at zero, every weakly fair execution of @main on the TensorCores ends; every
    buffer outside the pipeline's arrays then holds what the host lines leave, and every semaphore is at zero. -/
theorem run_main : θ_run defs (onTc (τ := τ) (main (F := F))) (s₀ m ρ) (fun r =>
    (∀ c : Dev nD, ∀ b ∈ Pipeline.restRefs sig spec0, r.2.mem ((c : Thread nD τ).loc b) = fin m c b) ∧ r.2.sem = fun _ => 0) :=
  Pipeline.θ_run_frame_dmaR_aroundV cfgs (dats m) (0 : Fin 1) launch0 osem defs₀ 𝒱₀ ownSemFacts readRefs writtenRefs
    (by decide) (by decide) m ρ main (fun c => (body_obligation m c).loose) (fun c => (dats m 0 c).share_full fun _ => rfl)
    (fun _ _ => rfl) (V0 m) [hostOps1] sfx_sub sfx_fresh sfx_keeps (written m) (main_around m) (fun _ _ => rfl)
    (enter_Φ m) (leave_Φ m) _ (fun r h => ⟨fun c b hb => (h.1 c).2 b hb, h.2⟩)

end Launch

end Cert.Proof.KernelIdeal

end
-- ==== Proof.KernelIdeal.Ends.lean ====
/-
  What the run of `KernelIdeal` leaves at the buffers a claim reads: the arguments as launched, the results as the host
  lines compute them, every semaphore at zero.
-/
module

public import proofs.«01_k».proof.Proof.KernelIdeal.Launch

@[expose] public section

noncomputable section

namespace Cert.Proof.KernelIdeal

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The buffers that the host lines after the region write. -/
abbrev lateRefs : List (Ref sig .tc) := [main_v7, main_v8, main_v9, main_v10, main_v11, main_v12]

/-- A buffer that neither the region nor a host line after it writes ends as the region found it. -/
theorem fin_kept (c : Dev nD) (b : Ref sig .tc) (hb : b ∉ lateRefs) (hw : ∀ w, Pipeline.arrRef spec0 w ≠ b)
    (hr : b ∉ writtenRefs) : fin m c b = V m c b := by
  have hb' : ∀ x ∈ lateRefs, Proc.devRef (τ := τ) .tc b ≠ Proc.devRef .tc x := fun x hx =>
    StableHlo.devRef_ne_of_ne fun e => hb (e ▸ hx)
  refine (StableHlo.after_of_forall_not_mem (b := Proc.devRef .tc b) _ _ (List.forall_iff_forall_mem.mp ?_)).trans
    ((Pipeline.withArrays_of_ne _ c _ _ b hw).trans (Pipeline.withR_of_not_mem _ _ c _ b hr))
  simp only [hostOps1, List.flatten_cons, List.flatten_nil, List.append_nil, List.Forall, StableHlo.unary_writes,
    StableHlo.reshape_writes, Finset.mem_singleton]
  simp only [lateRefs, List.forall_mem_cons] at hb'
  obtain ⟨h7, h8, h9, h10, h11, h12, -⟩ := hb'
  exact ⟨h7, h8, h9, h10, h11, h12⟩

/-- An argument ends as launched. -/
theorem fin_arg (c : Dev nD) :
    fin m c main_arg0 = m ((c : Thread nD τ).loc main_arg0) ∧ fin m c main_arg1 = m ((c : Thread nD τ).loc main_arg1)
    ∧ fin m c main_arg2 = m ((c : Thread nD τ).loc main_arg2) ∧ fin m c main_arg3 = m ((c : Thread nD τ).loc main_arg3)
    ∧ fin m c main_arg4 = m ((c : Thread nD τ).loc main_arg4) ∧ fin m c main_arg5 = m ((c : Thread nD τ).loc main_arg5) :=
  ⟨(fin_kept m c main_arg0 (by decide) (by exact (by decide : ∀ w, Pipeline.arrRef spec0 w ≠ main_arg0)) (by decide)).trans (V_main_arg0 m c),
   (fin_kept m c main_arg1 (by decide) (by exact (by decide : ∀ w, Pipeline.arrRef spec0 w ≠ main_arg1)) (by decide)).trans (V_main_arg1 m c),
   (fin_kept m c main_arg2 (by decide) (by exact (by decide : ∀ w, Pipeline.arrRef spec0 w ≠ main_arg2)) (by decide)).trans (V_main_arg2 m c),
   (fin_kept m c main_arg3 (by decide) (by exact (by decide : ∀ w, Pipeline.arrRef spec0 w ≠ main_arg3)) (by decide)).trans (V_main_arg3 m c),
   (fin_kept m c main_arg4 (by decide) (by exact (by decide : ∀ w, Pipeline.arrRef spec0 w ≠ main_arg4)) (by decide)).trans (V_main_arg4 m c),
   (fin_kept m c main_arg5 (by decide) (by exact (by decide : ∀ w, Pipeline.arrRef spec0 w ≠ main_arg5)) (by decide)).trans (V_main_arg5 m c)⟩

/-- The run, at the buffers a claim reads: the three results as the host lines leave them, the arguments as launched,
    every semaphore at zero. -/
theorem run_ends : θ_run defs (onTc (τ := τ) (main (F := F))) ⟨m, fun _ => 0, ρ⟩ (fun r =>
    (∀ c : Dev nD, (r.2.mem ((c : Thread nD τ).loc main_v8) = fin m c main_v8
        ∧ r.2.mem ((c : Thread nD τ).loc main_v10) = fin m c main_v10
        ∧ r.2.mem ((c : Thread nD τ).loc main_v12) = fin m c main_v12)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
    ∧ r.2.sem = fun _ => 0) := by
  refine (θ_run defs _ _).mono (fun r h => ⟨fun c => ?_, h.2⟩) (run_main m ρ)
  have at' : ∀ b : Ref sig .tc, b.isScoped = false → (∀ w, (spec0 w).arr.view.ref ≠ b) →
      r.2.mem ((c : Thread nD τ).loc b) = fin m c b := fun b hs ha => h.1 c b (Pipeline.mem_restRefs_of b hs ha)
  obtain ⟨a0, a1, a2, a3, a4, a5⟩ := fin_arg m c
  exact ⟨⟨at' main_v8 (by decide) (by decide), at' main_v10 (by decide) (by decide), at' main_v12 (by decide) (by decide)⟩,
    (at' main_arg0 (by decide) (by decide)).trans a0, (at' main_arg1 (by decide) (by decide)).trans a1,
    (at' main_arg2 (by decide) (by decide)).trans a2, (at' main_arg3 (by decide) (by decide)).trans a3,
    (at' main_arg4 (by decide) (by decide)).trans a4, (at' main_arg5 (by decide) (by decide)).trans a5⟩

end Cert.Proof.KernelIdeal

end
-- ==== Proof.Same.lean ====
/-
  The kernel and its idealization are one program text: nothing was rewritten. So a run proved of the one at any reading
  of its floats is a run of the other, and the frame of the kernel at the machine's words is the same theorem.
-/
module

public import proofs.«01_k».proof.Proof.KernelIdeal.Ends
public import proofs.«01_k».proof.Proof.Gen.Kernel

@[expose] public section

set_option maxRecDepth 8192

noncomputable section

namespace Cert.Proof

open Idealize.ShloMosaic Idealize.ShloMosaic.TcCoe Idealize.SL.Sem

variable {F : FTy → Type} [FloatOps F]

/-- The two bodies are one. -/
theorem body_same : @Cert.Kernel.cc0__stream_fn F _ _ = @Cert.KernelIdeal.cc0__stream_fn F _ _ := rfl

/-- So are the tables that hold them, -/
theorem table_same : Cert.Kernel.defs₀ (F := F) = Cert.KernelIdeal.defs₀ (F := F) := by
  unfold Cert.Kernel.defs₀ Cert.KernelIdeal.defs₀
  refine congrArg Defs.onTc (funext fun l => ?_)
  match l with
  | 0 => funext a; obtain ⟨t, s⟩ := a; rfl

/-- and so are the tables with the pipeline added, -/
theorem defs_same : Cert.Kernel.defs (F := F) = Cert.KernelIdeal.defs (F := F) :=
  congrArg (Pipeline.defs Cert.Kernel.pcfgs) table_same

/-- and the host programs around them. -/
theorem main_same : Cert.Kernel.main (F := F) = Cert.KernelIdeal.main (F := F) := rfl

/-- The kernel at the machine's words ends, with its arguments unchanged and every semaphore at zero. -/
theorem frame_kernel : Cert.quiescent_Kernel := by
  intro m g _
  rw [defs_same, main_same]
  exact (θ_run Cert.KernelIdeal.defs _ _).mono (fun r h => ⟨fun c => (h.1 c).2, h.2⟩)
    (Cert.Proof.KernelIdeal.run_ends (F := Bits) m g)

/-- So does its idealization, over the extended reals. -/
theorem frame_ideal : Cert.quiescent_KernelIdeal := by
  intro m g _
  exact (θ_run Cert.KernelIdeal.defs _ _).mono (fun r h => ⟨fun c => (h.1 c).2, h.2⟩)
    (Cert.Proof.KernelIdeal.run_ends (F := Ideal) m g)

end Cert.Proof

end
-- ==== Proof.Reference.Frame.lean ====
/-
  The frame of the reference: host lines only, it ends with its arguments unchanged and every semaphore at zero.
-/
module

public import proofs.«01_k».proof.Defs
public import proofs.«01_k».proof.Proof.Gen.ReferenceIdeal
public import proofs.«01_k».proof.Proof.Gen.ReferenceIdeal.Run
public import Idealize.ShloMosaic.Lib.Claim
public import Idealize.ShloMosaic.Lib.Quiescent

@[expose] public section

set_option maxRecDepth 8192

noncomputable section

namespace Cert.Proof

open Idealize.ShloMosaic Idealize.ShloMosaic.TcCoe Idealize.SL.Sem

/-- The reference ends, with its arguments unchanged and every semaphore at zero. -/
theorem frame_reference : Cert.quiescent_ReferenceIdeal := by
  intro m g _
  refine (θ_run Cert.ReferenceIdeal.defs _ _).mono (fun r h => ⟨fun c => (h c).2.2.2, ?_⟩)
    (Cert.ReferenceIdeal.Value.run m g)
  exact sem_eq_zero_of_no_sems (by decide) r.2

end Cert.Proof

end
-- ==== Proof.KernelIdeal.Results.lean ====
/-
  The three results of `KernelIdeal` as terms of its arguments: what the host lines make of the written arrays, what the
  arrays hold, and what the region finds of the arguments.
-/
module

public import proofs.«01_k».proof.Proof.KernelIdeal.Ends
public import Idealize.ShloMosaic.Lib.Pipeline.ValueKit
public import Idealize.ShloMosaic.Lib.Claim

@[expose] public section

noncomputable section

namespace Cert.Proof.KernelIdeal

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The region leaves the two results of its transfers in their arrays, -/
theorem mid_ko (c : Dev nD) : mid m c (Proc.devRef .tc main_v6_0) = koutF m c :=
  (Pipeline.withArrays_of_ne _ c _ _ main_v6_0 (by exact (by decide : ∀ w, Pipeline.arrRef spec0 w ≠ main_v6_0))).trans
    ((Pipeline.withR_of_mem _ _ c _ main_v6_0 (by decide)).trans (written_ko m c))
/-- the second as the first, -/
theorem mid_vo (c : Dev nD) : mid m c (Proc.devRef .tc main_v6_1) = voutF m c :=
  (Pipeline.withArrays_of_ne _ c _ _ main_v6_1 (by exact (by decide : ∀ w, Pipeline.arrRef spec0 w ≠ main_v6_1))).trans
    ((Pipeline.withR_of_mem _ _ c _ main_v6_1 (by decide)).trans (written_vo m c))
/-- and the pipelined one in its own. -/
theorem mid_bias (c : Dev nD) : mid m c (Proc.devRef .tc main_v6_2) = (dats m 0 c).arrAt 1 cfg0.N :=
  Pipeline.withArrays_arr spec0 launch0.win.arr_inj c _ _ 1

/-- The first result: the written array, laid out anew. -/
theorem fin_v8 (c : Dev nD) : fin m c main_v8
    = transpose S1024x32x32x32 [3, 0, 1, 2] (shapeCast S32x32x32x1024 (koutF m c) shapeCasts_S32x1024x1024_S32x32x32x1024)
        transposes_S32x32x32x1024_S1024x32x32x32_3_0_1_2 := by
  have h := mid_ko m c
  unfold fin; rw [← h]
  generalize mid m c = Vm
  simp only [List.flatten_cons, List.flatten_nil, List.append_nil]
  after_results
  rfl
/-- The second result likewise. -/
theorem fin_v10 (c : Dev nD) : fin m c main_v10
    = transpose S1024x32x32x32 [3, 0, 1, 2] (shapeCast S32x32x32x1024 (voutF m c) shapeCasts_S32x1024x1024_S32x32x32x1024)
        transposes_S32x32x32x1024_S1024x32x32x32_3_0_1_2 := by
  have h := mid_vo m c
  unfold fin; rw [← h]
  generalize mid m c = Vm
  simp only [List.flatten_cons, List.flatten_nil, List.append_nil]
  after_results
  rfl
/-- The bias: the pipelined block, laid out anew. -/
theorem fin_v12 (c : Dev nD) : fin m c main_v12
    = shapeCast S32x32x32 (transpose S32x1024 [1, 0] ((dats m 0 c).arrAt 1 cfg0.N) transposes_S1024x32_S32x1024_1_0)
        shapeCasts_S32x1024_S32x32x32 := by
  have h := mid_bias m c
  unfold fin; rw [← h]
  generalize mid m c = Vm
  simp only [List.flatten_cons, List.flatten_nil, List.append_nil]
  after_results
  rfl

/-- The pipelined result's one block is its array. -/
theorem bias_arr (c : Dev nD) : (dats m 0 c).arrAt 1 cfg0.N = biasOf (tabs m c) := by
  refine (dats m 0 c).arrAt_eq_of_after_last 1 t0_0 (by decide +kernel) _ fun j => ?_
  blk_simp
  rw [after_w1]

/-- The region finds the two large arguments with their axes regrouped, -/
theorem V_v1 (c : Dev nD) : V m c main_v1 = shapeCast S32x1024x1024 (transpose S32x32x32x1024 [1, 2, 3, 0]
    (m ((c : Thread nD τ).loc main_arg1)) transposes_S1024x32x32x32_S32x32x32x1024_1_2_3_0) shapeCasts_S32x32x32x1024_S32x1024x1024 := by
  unfold_abbrev_sides; unfold_abbrev_sides
  simp only [List.flatten_cons, List.flatten_nil, List.append_nil, List.cons_append, List.nil_append]
  after_results
  rfl
/-- the second as the first, -/
theorem V_v3 (c : Dev nD) : V m c main_v3 = shapeCast S32x1024x1024 (transpose S32x32x32x1024 [1, 2, 3, 0]
    (m ((c : Thread nD τ).loc main_arg2)) transposes_S1024x32x32x32_S32x32x32x1024_1_2_3_0) shapeCasts_S32x32x32x1024_S32x1024x1024 := by
  unfold_abbrev_sides; unfold_abbrev_sides
  simp only [List.flatten_cons, List.flatten_nil, List.append_nil, List.cons_append, List.nil_append]
  after_results
  rfl
/-- and the three tables side by side. -/
theorem V_v5 (c : Dev nD) : V m c main_v5 = concatenate S65x96 1 [⟨S65x32, m ((c : Thread nD τ).loc main_arg4)⟩,
    ⟨S65x32, m ((c : Thread nD τ).loc main_arg5)⟩, ⟨S65x32, pad S65x32 ![0, 0] ![1, 0] ![0, 0] (m ((c : Thread nD τ).loc main_arg3))
      (sitofp .f32 (constantI S_ 32 0#32)) pads_S64x32_S65x32_010_000 h_S_⟩] concatenates_S65x32_S65x32_S65x32_S65x96_d1 := by
  unfold_abbrev_sides; unfold_abbrev_sides
  simp only [List.flatten_cons, List.flatten_nil, List.append_nil, List.cons_append, List.nil_append]
  after_results
  rfl

end Cert.Proof.KernelIdeal

end
-- ==== Proof.KernelIdeal.Rows.lean ====
/-
  The kernel's two small products over the extended reals. The one-hot product picks one row of the tables for each
  row of the row table; the selector product picks one column of the row table for each trip.
-/
module

public import proofs.«01_k».proof.Proof.KernelIdeal.Results
public import Idealize.ShloMosaic.Lib.Pointwise
public import Idealize.ShloMosaic.Lib.KernelVsHost

@[expose] public section

set_option maxRecDepth 16384

noncomputable section

namespace Cert.Proof.KernelIdeal

open Cert.KernelIdeal Cert.KernelIdeal.Gen
open Idealize.ShloMosaic Idealize.ShloMosaic.TcCoe Idealize.SL.Sem

/-- The row `m / 32 − m % 32 + 32` of the tables that row `m` of the row table holds. -/
def place (m : Fin 1024) : Fin 65 := ⟨m.val / 32 + 32 - m.val % 32, by omega⟩

/-- The index word of the one-hot product in row `m` is `place m`. -/
theorem place_word (m : Fin 1024) (j : Fin 65) :
    IntOp.addi (IntOp.minsi (32#32) (k0_pay5 (ix2 m j))) 32#32 = BitVec.ofNat 32 (place m).val := by
  pointwise [k0_pay5]
  revert m
  decide +kernel

/-- A truth value widened to a word and read as a number is one or zero. -/
theorem flag (w : BitVec 1) :
    (FloatOps.sitofp .f32 (BitVec.setWidth 32 w) : Ideal .f32) = if w = 1#1 then (1 : EReal) else 0 := by
  rcases (by revert w; decide : w = 0#1 ∨ w = 1#1) with rfl | rfl
  · show (((BitVec.setWidth 32 0#1).toInt : ℝ) : EReal) = _
    rw [if_neg (by decide), show (BitVec.setWidth 32 0#1).toInt = 0 from by decide]
    norm_num
  · show (((BitVec.setWidth 32 1#1).toInt : ℝ) : EReal) = _
    rw [if_pos rfl, show (BitVec.setWidth 32 1#1).toInt = 1 from by decide]
    norm_num

/-- Words of small numbers are equal just where the numbers are. -/
theorem small_eq (n l : Nat) (hn : n < 1024) (hl : l < 1024) :
    IntOp.cmpi .eq (BitVec.ofNat 32 n) (BitVec.ofNat 32 l) = if n = l then 1#1 else 0#1 := by
  have e : (BitVec.ofNat 32 n = BitVec.ofNat 32 l) ↔ n = l := by
    refine ⟨fun h => ?_, fun h => h ▸ rfl⟩
    have := congrArg BitVec.toNat h
    simp only [BitVec.toNat_ofNat] at this
    omega
  by_cases h : n = l
  · subst h; rw [if_pos rfl]; show BitVec.ofBool (_ == _) = _; rw [beq_self_eq_true]; rfl
  · rw [if_neg h]; show BitVec.ofBool (_ == _) = _; rw [beq_eq_false_iff_ne.2 fun h' => h (e.1 h')]; rfl

/-- The row table at `(m, b)`: row `place m` of the tables. -/
theorem tt_at (T : FVec Ideal S65x96 .f32) (k : Fin 1024) (b : Fin 96) :
    ttOf (F := Ideal) T (ix2 k b) = T (ix2 (place k) b) := by
  pointwise [ttOf, k0_pay6, k0_pay7]
  simp only [place_word]
  rw [Finset.sum_eq_single (place k)]
  · rw [small_eq _ _ (by omega) (by omega), if_pos rfl, flag, if_pos rfl]
    exact one_mul (M := EReal) _
  · intro j _ hj
    rw [small_eq _ _ (by omega) (by omega), if_neg fun h => hj (Fin.ext h), flag, if_neg (by decide)]
    exact zero_mul (M₀ := EReal) _
  · exact fun h => absurd (Finset.mem_univ _) h

/-- The bias block is the last 32 columns of the row table. -/
theorem bias_cols (T : FVec Ideal S65x96 .f32) (k : Fin 1024) (b : Fin 32) :
    biasOf (F := Ideal) T (ix2 k b) = ttOf (F := Ideal) T (ix2 k ⟨64 + b.val, by omega⟩) := by
  pointwise [biasOf, ttOf, k0_pay8, k0_pay7]

/-- The test of the selector's first column: only the trip's own number passes. -/
theorem first_bit : ∀ (x : Fin 96) (u : Fin 32),
    IntOp.ori (IntOp.andi (IntOp.cmpi .eq (BitVec.ofNat 32 x.val) (Scf.iv 0#32 1#32 u.val)) 1#1)
      (IntOp.andi (IntOp.cmpi .eq (BitVec.ofNat 32 x.val) (Scalar.addi (Scf.iv 0#32 1#32 u.val) 32#32))
        (IntOp.cmpi .eq 0#32 1#32)) = if x.val = u.val then 1#1 else 0#1 := by
  decide +kernel

/-- The test of the selector's second column: only 32 more than the trip's number passes. -/
theorem second_bit : ∀ (x : Fin 96) (u : Fin 32),
    IntOp.ori (IntOp.andi (IntOp.cmpi .eq (BitVec.ofNat 32 x.val) (Scf.iv 0#32 1#32 u.val)) (IntOp.cmpi .eq 1#32 0#32))
      (IntOp.andi (IntOp.cmpi .eq (BitVec.ofNat 32 x.val) (Scalar.addi (Scf.iv 0#32 1#32 u.val) 32#32)) 1#1)
      = if x.val = u.val + 32 then 1#1 else 0#1 := by
  decide +kernel

/-- A sum of products with a flag that is up at one place only is the term of that place. -/
theorem sum_flag (f : Fin 96 → EReal) (w : Fin 96 → BitVec 1) (p : Fin 96)
    (hw : ∀ x, w x = if x.val = p.val then 1#1 else 0#1) :
    (∑ x, f x * (FloatOps.sitofp .f32 (BitVec.setWidth 32 (w x)) : Ideal .f32) : EReal) = f p := by
  rw [Finset.sum_eq_single p]
  · rw [hw, if_pos rfl, flag, if_pos rfl]
    exact mul_one (M := EReal) _
  · intro j _ hj
    rw [hw, if_neg fun h => hj (Fin.ext h), flag, if_neg (by decide)]
    exact mul_zero (M₀ := EReal) _
  · exact fun h => absurd (Finset.mem_univ _) h

variable (r : FVec Ideal S1024x96 .f32) (x : FVec Ideal S1x1024x1024 .f32)

/-- What a trip stores of the first array: its block plus column `u` of the row table. -/
theorem pay3_at (u : Fin k0_t1_loop.trips) (u' : Fin 32) (hu : u'.val = u.val) (k n : Fin 1024) :
    k0_pay3 (F := Ideal) r (k0_pay1 0#32 1#32 u) (constant S1024x2 .f32 0#32) x (ix3 0 k n)
      = ((x (ix3 0 k n) : EReal) + (r (ix2 k ⟨u'.val, by omega⟩) : EReal) : EReal) := by
  pointwise [k0_pay3, k0_pay2, k0_pay1]
  refine congrArg (_ + ·) ?_
  exact sum_flag (fun x => r (ix2 k x)) _ ⟨u'.val, by omega⟩ fun x => by rw [← hu]; exact first_bit x u'

/-- What a trip stores of the second array: its block plus column `u + 32` of the row table. -/
theorem pay4_at (u : Fin k0_t1_loop.trips) (u' : Fin 32) (hu : u'.val = u.val) (k n : Fin 1024) :
    k0_pay4 (F := Ideal) r (k0_pay1 0#32 1#32 u) (constant S1024x2 .f32 0#32) x (ix3 0 k n)
      = ((x (ix3 0 k n) : EReal) + (r (ix2 k ⟨u'.val + 32, by omega⟩) : EReal) : EReal) := by
  pointwise [k0_pay4, k0_pay2, k0_pay1]
  refine congrArg (_ + ·) ?_
  exact sum_flag (fun x => r (ix2 k x)) _ ⟨u'.val + 32, by omega⟩ fun x => by rw [← hu]; exact second_bit x u'

end Cert.Proof.KernelIdeal

end
-- ==== Proof.KernelIdeal.Values.lean ====
/-
  The kernel's three results at an index, over the extended reals: the layouts before and after the region cancel, the
  three tables stand side by side, and each written block is its argument's block plus one column of the row table.
-/
module

public import proofs.«01_k».proof.Proof.KernelIdeal.Rows

@[expose] public section

set_option maxRecDepth 16384

noncomputable section

namespace Cert.Proof.KernelIdeal

open Cert.KernelIdeal Cert.KernelIdeal.Gen
open Idealize.ShloMosaic Idealize.ShloMosaic.TcCoe Idealize.SL.Sem

/-! ## Layouts -/

/-- The pair `(y, z)` as one number, row by row. -/
abbrev pair (y z : Fin 32) : Fin 1024 := ⟨y.val * 32 + z.val, by omega⟩

/-- Row `pair y z` of the row table is row `y − z + 32` of the tables. -/
theorem place_pair (y z : Fin 32) : place (pair y z) = ⟨y.val + 32 - z.val, by omega⟩ :=
  Fin.ext (show (y.val * 32 + z.val) / 32 + 32 - (y.val * 32 + z.val) % 32 = y.val + 32 - z.val by omega)

/-- A result's element `(b, h, y, z)` lies in block `h` of the written array, at row `(y, z)` and column `b`. -/
theorem laid_out (A : FVec Ideal S32x1024x1024 .f32) (b : Fin 1024) (h y z : Fin 32) :
    transpose S1024x32x32x32 [3, 0, 1, 2] (shapeCast S32x32x32x1024 A shapeCasts_S32x1024x1024_S32x32x32x1024)
      transposes_S32x32x32x1024_S1024x32x32x32_3_0_1_2 (ix4 b h y z) = A (ix3 h (pair y z) b) := by
  pointwise

/-- An argument's element `(b, h, y, z)` lies in block `h` of the array the region reads, at row `(y, z)` and column `b`. -/
theorem laid_in (K : FVec Ideal S1024x32x32x32 .f32) (b : Fin 1024) (h y z : Fin 32) :
    shapeCast S32x1024x1024 (transpose S32x32x32x1024 [1, 2, 3, 0] K transposes_S1024x32x32x32_S32x32x32x1024_1_2_3_0)
      shapeCasts_S32x32x32x1024_S32x1024x1024 (ix3 h (pair y z) b) = K (ix4 b h y z) := by
  pointwise
  exact congrArg K (congrArg₂ (ix4 b h) (Fin.ext (by show (y.val * 32 + z.val) / 32 = y.val; omega))
    (Fin.ext (by show (y.val * 32 + z.val) % 32 = z.val; omega)))

/-- The bias's element `(h, y, z)` lies at row `(y, z)` and column `h` of the bias block. -/
theorem bias_out (B : FVec Ideal S1024x32 .f32) (h y z : Fin 32) :
    shapeCast S32x32x32 (transpose S32x1024 [1, 0] B transposes_S1024x32_S32x1024_1_0) shapeCasts_S32x1024_S32x32x32 (ix3 h y z)
      = B (ix2 (pair y z) h) := by
  pointwise

/-! ## The tables side by side -/

/-- The three tables side by side, the last with a row of zeros added. -/
def beside (T4 T5 : FVec Ideal S65x32 .f32) (T3 : FVec Ideal S64x32 .f32) : FVec Ideal S65x96 .f32 :=
  concatenate S65x96 1 [⟨S65x32, T4⟩, ⟨S65x32, T5⟩, ⟨S65x32, pad S65x32 ![0, 0] ![1, 0] ![0, 0] T3
    (sitofp .f32 (constantI S_ 32 0#32)) pads_S64x32_S65x32_010_000 h_S_⟩] concatenates_S65x32_S65x32_S65x32_S65x96_d1

section Tables
variable (T4 T5 : FVec Ideal S65x32 .f32) (T3 : FVec Ideal S64x32 .f32)

/-- The first 32 columns are the first table, -/
theorem beside_first (k : Fin 65) (h : Fin 32) : beside T4 T5 T3 (ix2 k ⟨h.val, by omega⟩) = T4 (ix2 k h) := by
  pointwise [beside]

/-- the next 32 the second, -/
theorem beside_second (k : Fin 65) (h : Fin 32) : beside T4 T5 T3 (ix2 k ⟨h.val + 32, by omega⟩) = T5 (ix2 k h) := by
  pointwise [beside]
  rw [dif_neg (by omega), dif_pos (by omega)]
  exact congrArg T5 (congrArg (ix2 k) (Fin.ext (by show h.val + 32 - 32 = h.val; omega)))

/-- and the last 32, in all rows but the last, the third. -/
theorem beside_third (k : Fin 64) (h : Fin 32) :
    beside T4 T5 T3 (ix2 ⟨k.val, by omega⟩ ⟨64 + h.val, by omega⟩) = T3 (ix2 k h) := by
  pointwise [beside]
  rw [dif_neg (by omega), dif_neg (by omega), dif_pos (by omega)]
  exact congrArg T3 (congrArg (ix2 k) (Fin.ext (by show 64 + h.val - 32 - 32 = h.val; omega)))

end Tables

/-! ## The written arrays -/

/-- The two ways of writing an index of a block undo each other. -/
theorem flat_box (y : S1024x1024.Idx) : flat (box y) = y := by
  unfold box flat; rw [Shape.reshapeEquiv_reshapeEquiv, Shape.reshapeEquiv_self]

/-- A block read through its two-dimensional layout is the array's block. -/
theorem read_flat (c : Dev nD) (M : Memref sig .tc .hbm S32x1024x1024 .f32) (u : Fin 32)
    (X : Buf (Elt Ideal) (M.view.loc (c : Thread nD τ))) (k n : Fin 1024) :
    (blk M u).view.read (Elt Ideal) X (flat (ix3 0 k n : S1x1024x1024.Idx))
      = M.view.read (Elt Ideal) X (ix3 u k n : S32x1024x1024.Idx) := by
  rw [show (ix3 0 k n : S1x1024x1024.Idx) = box (ix2 k n) from (box_eq (ix2 k n)).symm, flat_box, read_blk (F := Ideal)]
  rfl

section Written
variable (c : Dev nD) (X : FVec Ideal S32x1024x1024 .f32) (r : FVec Ideal S1024x96 .f32) (u : Fin 32) (k n : Fin 1024)

/-- The first written array at `(u, k, n)`: what was read there plus the row table at `(k, u)`. -/
theorem written_k_at : (glued (outK (F := Ideal) c X r) : FVec Ideal S32x1024x1024 .f32) (ix3 u k n)
    = ((X (ix3 u k n) : EReal) + (r (ix2 k ⟨u.val, by omega⟩) : EReal) : EReal) := by
  show k0_pay3 (F := Ideal) r _ _ _ (box (ix2 k n)) = _
  rw [box_eq]
  exact (pay3_at r _ _ u rfl k n).trans (congrArg (fun t : EReal => t + _) (read_flat c ktM u X k n))

/-- The second written array at `(u, k, n)`: what was read there plus the row table at `(k, u + 32)`. -/
theorem written_v_at : (glued (outV (F := Ideal) c X r) : FVec Ideal S32x1024x1024 .f32) (ix3 u k n)
    = ((X (ix3 u k n) : EReal) + (r (ix2 k ⟨u.val + 32, by omega⟩) : EReal) : EReal) := by
  show k0_pay4 (F := Ideal) r _ _ _ (box (ix2 k n)) = _
  rw [box_eq]
  exact (pay4_at r _ _ u rfl k n).trans (congrArg (fun t : EReal => t + _) (read_flat c vtM u X k n))

end Written

/-! ## The results -/

variable (m : (ℓ : Loc nD τ sig) → Buf (Elt Ideal) ℓ) (c : Dev nD)
variable (K V' : FVec Ideal S1024x32x32x32 .f32) (T4 T5 : FVec Ideal S65x32 .f32) (T3 : FVec Ideal S64x32 .f32)

/-- The tables as the body reads them are the whole array the host made. -/
theorem tabs_eq : tabs m c = V m c main_v5 := by
  have e : win0_0.index t0_0 = ![0, 0] := by decide +kernel
  unfold tabs iblk
  funext j
  blk_ext [e]

section Results
variable (hT4 : m ((c : Thread nD τ).loc main_arg4) = T4) (hT5 : m ((c : Thread nD τ).loc main_arg5) = T5)
  (hT3 : m ((c : Thread nD τ).loc main_arg3) = T3)
include hT4 hT5 hT3

/-- The tables the body reads are the three tables side by side. -/
theorem tabs_beside : tabs m c = beside T4 T5 T3 := by
  rw [tabs_eq, V_v5, hT4, hT5, hT3]
  rfl

/-- The row table is made of them. -/
theorem rows_beside : rows m c = ttOf (F := Ideal) (beside T4 T5 T3) :=
  congrArg ttOf (tabs_beside m c T4 T5 T3 hT4 hT5 hT3)

/-- The bias at `(h, y, z)`: the bias table at row `y − z + 32`, column `h`. -/
theorem bias_at (h y z : Fin 32) :
    (fin m c main_v12 : FVec Ideal S32x32x32 .f32) (ix3 h y z) = T3 (ix2 ⟨y.val + 32 - z.val, by omega⟩ h) := by
  rw [fin_v12, bias_arr, tabs_beside m c T4 T5 T3 hT4 hT5 hT3]
  refine (bias_out _ h y z).trans ?_
  rw [bias_cols, tt_at, place_pair]
  exact beside_third T4 T5 T3 ⟨y.val + 32 - z.val, by omega⟩ h

/-- The first result at `(b, h, y, z)`: the first array plus the first table at row `y − z + 32`, column `h`. -/
theorem kout_at (hK : m ((c : Thread nD τ).loc main_arg1) = K) (b : Fin 1024) (h y z : Fin 32) :
    (fin m c main_v8 : FVec Ideal S1024x32x32x32 .f32) (ix4 b h y z)
      = ((K (ix4 b h y z) : EReal) + (T4 (ix2 ⟨y.val + 32 - z.val, by omega⟩ h) : EReal) : EReal) := by
  rw [fin_v8]
  refine (laid_out _ b h y z).trans ((written_k_at c _ _ h (pair y z) b).trans ?_)
  rw [V_v1, hK, laid_in, rows_beside m c T4 T5 T3 hT4 hT5 hT3, tt_at, place_pair, beside_first]

/-- The second result at `(b, h, y, z)`: the second array plus the second table at row `y − z + 32`, column `h`. -/
theorem vout_at (hV : m ((c : Thread nD τ).loc main_arg2) = V') (b : Fin 1024) (h y z : Fin 32) :
    (fin m c main_v10 : FVec Ideal S1024x32x32x32 .f32) (ix4 b h y z)
      = ((V' (ix4 b h y z) : EReal) + (T5 (ix2 ⟨y.val + 32 - z.val, by omega⟩ h) : EReal) : EReal) := by
  rw [fin_v10]
  refine (laid_out _ b h y z).trans ((written_v_at c _ _ h (pair y z) b).trans ?_)
  rw [V_v3, hV, laid_in, rows_beside m c T4 T5 T3 hT4 hT5 hT3, tt_at, place_pair, beside_second]

end Results

end Cert.Proof.KernelIdeal

end
-- ==== Proof.Reference.Values.lean ====
/-
  The reference's three results at an index. The index array of the tables is `y − z + 32` at `(y, z)`, which lies
  within both tables; so the clip, the wrap of negative indices and the test against the table's ends change nothing,
  and each gather reads one row of its table.
-/
module

public import proofs.«01_k».proof.Proof.Gen.ReferenceIdeal.Run
public import Idealize.ShloMosaic.Lib.Pointwise

@[expose] public section

set_option maxRecDepth 16384

noncomputable section

namespace Cert.Proof.Reference

open Cert.ReferenceIdeal Cert.ReferenceIdeal.Value
open Idealize.ShloMosaic Idealize.ShloMosaic.TcCoe Idealize.SL.Sem

/-- The dimension numbers of a gather of whole rows of a table of `N` rows by a 32 × 32 array of row numbers. -/
def rowDims (N : Nat) (wf : GatherDims.WF ⟨2, ![N, 32]⟩ S32x32x1 S32x32x32 [2] [0] [] [0] [] 2 ![1, 32]) :
    GatherDims ⟨2, ![N, 32]⟩ S32x32x1 S32x32x32 where
  offsetDims := [2]
  collapsedSliceDims := [0]
  operandBatchingDims := []
  startIndicesBatchingDims := []
  startIndexMap := [0]
  indexVectorDim := 2
  sliceSizes := ![1, 32]
  wf := wf

/-- Such a gather at `(y, z, h)`: the table's row numbered at `(y, z)`, brought within the table, at column `h`. -/
theorem gather_row {α : Type} (N : Nat) (hN : 0 < N)
    (wf : GatherDims.WF ⟨2, ![N, 32]⟩ S32x32x1 S32x32x32 [2] [0] [] [0] [] 2 ![1, 32])
    (x : (⟨2, ![N, 32]⟩ : Shape).Idx → α) (idx : IVec S32x32x1 32) (y z h : Fin 32) :
    Host.gather (rowDims N wf) x idx (ix3 y z h)
      = x (ix2 ⟨min (idx (ix3 y z 0)).toInt.toNat (N - 1), by omega⟩ h) := by
  have no_batch : ∀ a, (rowDims N wf).batchCoord (ix3 y z h) a = 0 := fun a =>
    GatherDims.batchCoord_eq_zero _ _ a List.not_mem_nil
  have read_at (p : Fin (rowDims N wf).startIndexMap.length) :
      (rowDims N wf).siIdx (ix3 y z h) p = ix3 y z 0 := by
    obtain rfl : p = ⟨0, Nat.one_pos⟩ := Subsingleton.elim (α := Fin 1) _ _
    funext b
    fin_cases b <;> rfl
  refine congrArg x (funext fun a => Fin.ext ?_)
  show (rowDims N wf).start (ix3 y z h) idx a + (rowDims N wf).batchCoord (ix3 y z h) a
    + (rowDims N wf).offCoord (ix3 y z h) a = _
  rw [no_batch, Nat.add_zero]
  by_cases ha : a = 0
  · subst ha
    rw [GatherDims.offCoord_eq_zero _ _ _ fun k => ((GatherDims.mem_sKept _ _).1 k).1 List.mem_cons_self, Nat.add_zero,
      GatherDims.start, dif_pos (show (0 : Fin 2) ∈ (rowDims N wf).startIndexMap from List.mem_cons_self), read_at]
    rfl
  · obtain rfl : a = 1 := by
      have h0 := a.isLt
      have h1 : a.val ≠ 0 := fun e => ha (Fin.ext e)
      exact Fin.ext (show a.val = 1 by change a.val < 2 at h0; omega)
    rw [GatherDims.start, dif_neg (show (1 : Fin 2) ∉ (rowDims N wf).startIndexMap from (by decide : (1 : Fin 2) ∉ [0])), Nat.zero_add]
    rfl

/-- A gather of rows of a table of 64 rows: at `(y, z, h)` the table's row named at `(y, z)`, brought within the table. -/
theorem gather64 {α : Type} (x : S64x32.Idx → α) (idx : IVec S32x32x1 32) (y z h : Fin 32) :
    Host.gather gather_S64x32_S32x32x1_S32x32x32_2_0_n_n_0_2_132 x idx (ix3 y z h)
      = x (ix2 ⟨min (idx (ix3 y z 0)).toInt.toNat 63, by omega⟩ h) :=
  gather_row 64 (by decide) _ x idx y z h

/-- The same for a table of 65 rows. -/
theorem gather65 {α : Type} (x : S65x32.Idx → α) (idx : IVec S32x32x1 32) (y z h : Fin 32) :
    Host.gather gather_S65x32_S32x32x1_S32x32x32_2_0_n_n_0_2_132 x idx (ix3 y z h)
      = x (ix2 ⟨min (idx (ix3 y z 0)).toInt.toNat 64, by omega⟩ h) :=
  gather_row 65 (by decide) _ x idx y z h

/-- The word `clip (y − z, −32, 32) + 32` of the reference. -/
def clipped (y z : Fin 32) : BitVec 32 :=
  IntOp.addi (IntOp.minsi 32#32 (IntOp.maxsi 4294967264#32 (IntOp.subi (BitVec.ofNat 32 y.val) (BitVec.ofNat 32 z.val)))) 32#32

/-- The word the reference indexes a table of `w` rows with: `clipped`, a negative one counted from the table's end. -/
def rowWord (w : BitVec 32) (y z : Fin 32) : BitVec 32 :=
  Scalar.select (IntOp.cmpi .slt (clipped y z) 0#32) (IntOp.addi (clipped y z) w) (clipped y z)

/-- The word is `y + 32 − z`, no matter how many rows the table has. -/
theorem clipped_eq : ∀ y z : Fin 32, clipped y z = BitVec.ofNat 32 (y.val + 32 - z.val) := by decide +kernel

/-- No word `clipped` is negative. -/
theorem clipped_nonneg : ∀ y z : Fin 32, IntOp.cmpi .slt (clipped y z) 0#32 = 0#1 := by decide +kernel

/-- The word a table is indexed with is `y + 32 − z`. -/
theorem rowWord_eq (w : BitVec 32) (y z : Fin 32) : rowWord w y z = BitVec.ofNat 32 (y.val + 32 - z.val) := by
  unfold rowWord
  rw [clipped_nonneg]
  exact clipped_eq y z

/-- Every row word lies between 0 and 63. -/
theorem within63 : ∀ y z : Fin 32, IntOp.andi (IntOp.cmpi .sge (BitVec.ofNat 32 (y.val + 32 - z.val)) 0#32)
    (IntOp.cmpi .sle (BitVec.ofNat 32 (y.val + 32 - z.val)) 63#32) = 1#1 := by decide +kernel

/-- Every row word lies between 0 and 64. -/
theorem within64 : ∀ y z : Fin 32, IntOp.andi (IntOp.cmpi .sge (BitVec.ofNat 32 (y.val + 32 - z.val)) 0#32)
    (IntOp.cmpi .sle (BitVec.ofNat 32 (y.val + 32 - z.val)) 64#32) = 1#1 := by decide +kernel

/-- Read as a signed number, a row word is `y + 32 − z`. -/
theorem word_toNat : ∀ y z : Fin 32, (BitVec.ofNat 32 (y.val + 32 - z.val)).toInt.toNat = y.val + 32 - z.val := by
  decide +kernel

/-- A select on a test that is one along an axis of size one takes its first branch. -/
theorem select_one {α : Type} (t : BitVec 1) (ht : t = 1#1) (a b : α) :
    Scalar.select (Finset.fold IntOp.andi 1#1 (fun _ : Fin 1 => t) Finset.univ) a b = a := by
  subst ht
  rfl

/-- One entry taken from a table of 64 rows. -/
theorem taken64 {α : Type} (T : S64x32.Idx → α) (y z h : Fin 32) (e : α) :
    Scalar.select (Finset.fold IntOp.andi 1#1 (fun _ : Fin 1 => IntOp.andi (IntOp.cmpi .sge (rowWord 64#32 y z) 0#32)
        (IntOp.cmpi .sle (rowWord 64#32 y z) 63#32)) Finset.univ)
      (T (ix2 ⟨min (rowWord 64#32 y z).toInt.toNat 63, by omega⟩ h)) e
    = T (ix2 ⟨y.val + 32 - z.val, by omega⟩ h) := by
  rw [select_one _ (by rw [rowWord_eq]; exact within63 y z)]
  refine congrArg T (congrArg (ix2 · h) (Fin.ext ?_))
  show min (rowWord 64#32 y z).toInt.toNat 63 = y.val + 32 - z.val
  rw [rowWord_eq, word_toNat]
  omega

/-- One entry taken from a table of 65 rows. -/
theorem taken65 {α : Type} (T : S65x32.Idx → α) (y z h : Fin 32) (e : α) :
    Scalar.select (Finset.fold IntOp.andi 1#1 (fun _ : Fin 1 => IntOp.andi (IntOp.cmpi .sge (rowWord 65#32 y z) 0#32)
        (IntOp.cmpi .sle (rowWord 65#32 y z) 64#32)) Finset.univ)
      (T (ix2 ⟨min (rowWord 65#32 y z).toInt.toNat 64, by omega⟩ h)) e
    = T (ix2 ⟨y.val + 32 - z.val, by omega⟩ h) := by
  rw [select_one _ (by rw [rowWord_eq]; exact within64 y z)]
  refine congrArg T (congrArg (ix2 · h) (Fin.ext ?_))
  show min (rowWord 65#32 y z).toInt.toNat 64 = y.val + 32 - z.val
  rw [rowWord_eq, word_toNat]
  omega

variable (m : (ℓ : Loc nD τ sig) → Buf (Elt Ideal) ℓ) (c : Dev nD)

/-- The reference's bias at `(h, y, z)`: the bias table at row `y − z + 32`, column `h`. -/
theorem bias_at (T : FVec Ideal S64x32 .f32) (hT : m ((c.tc : Thread nD τ).loc main_arg3) = T) (h y z : Fin 32) :
    (res_main_v13 m c : FVec Ideal S32x32x32 .f32) (ix3 h y z) = T (ix2 ⟨y.val + 32 - z.val, by omega⟩ h) := by
  subst hT
  pointwise [res_main_v13]
  rw [gather64]
  exact taken64 _ y z h _

/-- The reference's first result at `(b, h, y, z)`: the first array plus the first table at row `y − z + 32`, column `h`. -/
theorem kout_at (K : FVec Ideal S1024x32x32x32 .f32) (T : FVec Ideal S65x32 .f32)
    (hK : m ((c.tc : Thread nD τ).loc main_arg1) = K) (hT : m ((c.tc : Thread nD τ).loc main_arg4) = T)
    (b : Fin 1024) (h y z : Fin 32) :
    (res_main_v21 m c : FVec Ideal S1024x32x32x32 .f32) (ix4 b h y z)
      = ((K (ix4 b h y z) : EReal) + (T (ix2 ⟨y.val + 32 - z.val, by omega⟩ h) : EReal) : EReal) := by
  unfold res_main_v21
  rw [hK, hT]
  pointwise
  rw [gather65]
  exact congrArg (_ + ·) (taken65 _ y z h _)

/-- The reference's second result at `(b, h, y, z)`: the second array plus the second table at row `y − z + 32`, column `h`. -/
theorem vout_at (V : FVec Ideal S1024x32x32x32 .f32) (T : FVec Ideal S65x32 .f32)
    (hV : m ((c.tc : Thread nD τ).loc main_arg2) = V) (hT : m ((c.tc : Thread nD τ).loc main_arg5) = T)
    (b : Fin 1024) (h y z : Fin 32) :
    (res_main_v23 m c : FVec Ideal S1024x32x32x32 .f32) (ix4 b h y z)
      = ((V (ix4 b h y z) : EReal) + (T (ix2 ⟨y.val + 32 - z.val, by omega⟩ h) : EReal) : EReal) := by
  unfold res_main_v23
  rw [hV, hT]
  pointwise
  rw [gather65]
  exact congrArg (_ + ·) (taken65 _ y z h _)

end Cert.Proof.Reference

end
-- ==== Proof.Algebraic.lean ====
/-
  Over the extended reals the kernel and the reference return the same three arrays.
-/
module

public import proofs.«01_k».proof.Defs
public import proofs.«01_k».proof.Proof.KernelIdeal.Values
public import proofs.«01_k».proof.Proof.Reference.Values

@[expose] public section

set_option maxRecDepth 8192

noncomputable section

namespace Cert.Proof

open Idealize.ShloMosaic Idealize.ShloMosaic.TcCoe Idealize.SL.Sem

section Equal
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)
variable (h1 : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3)
    = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4)
    = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5)
    = m ((c.tc : Thread Cert.KernelIdeal.nD Cert.KernelIdeal.τ).loc Cert.KernelIdeal.main_arg5))

include h1 h3 h4 h5 in
/-- The first results are equal. -/
theorem kout_equal : Cert.ReferenceIdeal.Value.res_out0 m' c = Cert.Proof.KernelIdeal.fin m c Cert.KernelIdeal.main_v8 := by
  funext j
  idx_vars j
  exact (Reference.kout_at m' c _ _ h1 h4 _ _ _ _).trans (KernelIdeal.kout_at m c _ _ _ _ rfl rfl rfl rfl _ _ _ _).symm

include h2 h3 h4 h5 in
/-- The second results are equal. -/
theorem vout_equal : Cert.ReferenceIdeal.Value.res_out1 m' c = Cert.Proof.KernelIdeal.fin m c Cert.KernelIdeal.main_v10 := by
  funext j
  idx_vars j
  exact (Reference.vout_at m' c _ _ h2 h5 _ _ _ _).trans (KernelIdeal.vout_at m c _ _ _ _ rfl rfl rfl rfl _ _ _ _).symm

include h3 h4 h5 in
/-- The biases are equal. -/
theorem bias_equal : Cert.ReferenceIdeal.Value.res_out2 m' c = Cert.Proof.KernelIdeal.fin m c Cert.KernelIdeal.main_v12 := by
  funext j
  idx_vars j
  exact (Reference.bias_at m' c _ h3 _ _ _).trans (KernelIdeal.bias_at m c _ _ _ rfl rfl rfl _ _ _).symm

end Equal

/-- From equal arguments the kernel and the reference end with the same three results, their arguments unchanged. -/
theorem algebraic : Cert.algebraic_KernelIdeal_ReferenceIdeal := by
  intro m g m' g' _ hagree
  refine ⟨fun c => KernelIdeal.fin m c Cert.KernelIdeal.main_v8, fun c => KernelIdeal.fin m c Cert.KernelIdeal.main_v10,
    fun c => KernelIdeal.fin m c Cert.KernelIdeal.main_v12, ?_, ?_⟩
  · exact (θ_run Cert.KernelIdeal.defs _ _).mono
      (fun r h c => ⟨(h.1 c).1.1, (h.1 c).1.2.1, (h.1 c).1.2.2, (h.1 c).2⟩) (KernelIdeal.run_ends m g)
  · refine (θ_run Cert.ReferenceIdeal.defs _ _).mono (fun r h c => ?_) (Cert.ReferenceIdeal.Value.run m' g')
    obtain ⟨_, h1, h2, h3, h4, h5⟩ := hagree c
    obtain ⟨e0, e1, e2, hargs⟩ := h c
    exact ⟨e0.trans (kout_equal m m' c h1 h3 h4 h5), e1.trans (vout_equal m m' c h2 h3 h4 h5),
      e2.trans (bias_equal m m' c h3 h4 h5), hargs⟩

end Cert.Proof

end
-- ==== Proof.lean ====
/-
  The five claims put together. `Proof/KernelIdeal/` runs the kernel and reads its results, `Proof/Reference/` does so
  for the reference, `Proof/Same.lean` carries the run over to the machine's words, `Proof/Algebraic.lean` compares.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Reference.Frame
public import proofs.«01_k».proof.Proof.Algebraic
public import Idealize.ShloMosaic.Adequacy
public import Idealize.ShloMosaic.Init

@[expose] public section

noncomputable section

/-! ## The claim -/

namespace Cert.Proof

/-- The three programs end with arguments unchanged and semaphores at zero; the idealization changes no operation; and
    over the extended reals the kernel returns the reference's three results. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
